-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scans_finite [hPre_scans_finite : Cert.Pre_scans_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scans_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scans_finite [hPre_scans_finite : Cert.Pre_scans_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scans_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mid_scans_finite [hPre_mid_scans_finite : Cert.Pre_mid_scans_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mid_scans_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mid_scans_finite [hPre_mid_scans_finite : Cert.Pre_mid_scans_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mid_scans_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scans_finite [hKernelIdeal : Cert.KernelIdeal.Facts] [hPre_scans_finite : Cert.Pre_scans_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scans_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scans_finite [hReferenceIdeal : Cert.ReferenceIdeal.Facts] [hPre_scans_finite : Cert.Pre_scans_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scans_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_mid_scans_finite [hKernel3Ideal : Cert.Kernel3Ideal.Facts] [hPre_mid_scans_finite : Cert.Pre_mid_scans_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mid_scans_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_mid_scans_finite [hReference3Ideal : Cert.Reference3Ideal.Facts] [hPre_mid_scans_finite : Cert.Pre_mid_scans_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mid_scans_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_scans_finite [hKernelIdeal : Cert.KernelIdeal.Facts] [hReferenceIdeal : Cert.ReferenceIdeal.Facts] [hPre_scans_finite : Cert.Pre_scans_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scans_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_v85) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_mid_scans_finite [hKernel3Ideal : Cert.Kernel3Ideal.Facts] [hReference3Ideal : Cert.Reference3Ideal.Facts] [hPre_mid_scans_finite : Cert.Pre_mid_scans_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mid_scans_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)) (v4 : (c : Dev Cert.Kernel3Ideal.nD) → Buf (Elt Ideal) ((c.tc : Thread Cert.Kernel3Ideal.nD Cert.Kernel3Ideal.τ).loc Cert.Kernel3Ideal.main_v22_4)) (v5 : (c : Dev Cert.Kernel3Ideal.nD) → Buf (Elt Ideal) ((c.tc : Thread Cert.Kernel3Ideal.nD Cert.Kernel3Ideal.τ).loc Cert.Kernel3Ideal.main_v22_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_v22_4) = v4 c
          ∧ r.2.mem ((c.tc : Thread Cert.Kernel3Ideal.nD Cert.Kernel3Ideal.τ).loc Cert.Kernel3Ideal.main_v22_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v120) = v0 c
          ∧ r.2.mem ((c.tc : Thread Cert.Reference3Ideal.nD Cert.Reference3Ideal.τ).loc Cert.Reference3Ideal.main_v151) = v1 c
          ∧ r.2.mem ((c.tc : Thread Cert.Reference3Ideal.nD Cert.Reference3Ideal.τ).loc Cert.Reference3Ideal.main_v152) = v2 c
          ∧ r.2.mem ((c.tc : Thread Cert.Reference3Ideal.nD Cert.Reference3Ideal.τ).loc Cert.Reference3Ideal.main_v153) = v3 c
          ∧ r.2.mem ((c.tc : Thread Cert.Reference3Ideal.nD Cert.Reference3Ideal.τ).loc Cert.Reference3Ideal.main_v154) = v4 c
          ∧ r.2.mem ((c.tc : Thread Cert.Reference3Ideal.nD Cert.Reference3Ideal.τ).loc Cert.Reference3Ideal.main_v150) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_scans_finite : Cert.Pre_scans_finite.Facts) (hPre_mid_scans_finite : Cert.Pre_mid_scans_finite.Facts),
    quiescent_Kernel (hKernel := hKernel)
    ∧ quiescent_KernelIdeal (hKernelIdeal := hKernelIdeal)
    ∧ quiescent_KernelIdeal_pre_scans_finite (hKernelIdeal := hKernelIdeal) (hPre_scans_finite := hPre_scans_finite)
    ∧ quiescent_ReferenceIdeal (hReferenceIdeal := hReferenceIdeal)
    ∧ quiescent_ReferenceIdeal_pre_scans_finite (hReferenceIdeal := hReferenceIdeal) (hPre_scans_finite := hPre_scans_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_mid_scans_finite (hKernel3Ideal := hKernel3Ideal) (hPre_mid_scans_finite := hPre_mid_scans_finite)
    ∧ quiescent_Reference3Ideal (hReference3Ideal := hReference3Ideal)
    ∧ quiescent_Reference3Ideal_pre_mid_scans_finite (hReference3Ideal := hReference3Ideal) (hPre_mid_scans_finite := hPre_mid_scans_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_scans_finite (hKernelIdeal := hKernelIdeal) (hReferenceIdeal := hReferenceIdeal) (hPre_scans_finite := hPre_scans_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_mid_scans_finite (hKernel3Ideal := hKernel3Ideal) (hReference3Ideal := hReference3Ideal) (hPre_mid_scans_finite := hPre_mid_scans_finite)
    ∧ preserves_Kernel4_Kernel4Ideal
    ∧ algebraic_Kernel4Ideal_Reference4Ideal (hKernel4Ideal := hKernel4Ideal) (hReference4Ideal := hReference4Ideal)
-- ==== Pre_mid_scans_finite.lean ====
abbrev S8x256x1024 : Shape := ⟨3, ![8, 256, 1024]⟩
abbrev S8x4096x1024 : Shape := ⟨3, ![8, 4096, 1024]⟩
abbrev S8x4352x512 : Shape := ⟨3, ![8, 4352, 512]⟩
abbrev S8x4352x1024 : Shape := ⟨3, ![8, 4352, 1024]⟩
abbrev S2x16x3072 : Shape := ⟨3, ![2, 16, 3072]⟩
abbrev S2x64 : Shape := ⟨2, ![2, 64]⟩
abbrev S2x1024x1024 : Shape := ⟨3, ![2, 1024, 1024]⟩
abbrev S2x1024 : Shape := ⟨2, ![2, 1024]⟩
abbrev S2x1024x4128 : Shape := ⟨3, ![2, 1024, 4128]⟩
abbrev S_ : Shape := ⟨0, ![]⟩

class Facts : Prop where
  bitsLt_bf16_f32 : FTy.bits .bf16 < FTy.bits .f32
  bcast_S_S8x4352x512 : S_.BroadcastsInDim S8x4352x512 (![] : Fin 0 → Fin S8x4352x512.rank)

variable [Facts]

def fn {F : FTy → Type} [FloatOps F] (main_arg0 : FVec F S8x256x1024 .f32) (main_arg1 : FVec F S8x4096x1024 .f32) (main_arg2 : FVec F S8x4352x512 .bf16) (main_arg3 : FVec F S8x4352x512 .bf16) (main_arg4 : FVec F S8x4352x512 .bf16) (main_arg5 : FVec F S8x4352x1024 .bf16) (main_arg6 : FVec F S2x16x3072 .f32) (main_arg7 : FVec F S2x64 .f32) (main_arg8 : FVec F S2x64 .f32) (main_arg9 : FVec F S2x1024x1024 .f32) (main_arg10 : FVec F S2x1024 .f32) (main_arg11 : FVec F S2x1024x4128 .f32) : IVec S8x4352x512 1 :=
  let main_v0 : FVec F S8x4352x512 .f32 := (extf .f32 · bitsLt_bf16_f32) main_arg3
  let main_v1 : FVec F S8x4352x512 .f32 := (extf .f32 · bitsLt_bf16_f32) main_arg4
  let main_v2 : FVec F S8x4352x512 .f32 := addf main_v0 main_v1
  let main_v3 : FVec F S8x4352x512 .f32 := Host.absf main_v2
  let main_cst : FVec F S_ .f32 := constant S_ .f32 0x7F800000#32
  let main_v4 : FVec F S8x4352x512 .f32 := broadcastInDim S8x4352x512 ![] bcast_S_S8x4352x512 main_cst
  let main_v5 : IVec S8x4352x512 1 := cmpf .olt main_v3 main_v4
  main_v5
-- ==== Pre_scans_finite.lean ====
abbrev S8x4352x1024 : Shape := ⟨3, ![8, 4352, 1024]⟩
abbrev S8x4096x512 : Shape := ⟨3, ![8, 4096, 512]⟩
abbrev S8x4352x512 : Shape := ⟨3, ![8, 4352, 512]⟩
abbrev S2x16x3072 : Shape := ⟨3, ![2, 16, 3072]⟩
abbrev S2x64 : Shape := ⟨2, ![2, 64]⟩
abbrev S2x1024x1024 : Shape := ⟨3, ![2, 1024, 1024]⟩
abbrev S1024 : Shape := ⟨1, ![1024]⟩
abbrev S_ : Shape := ⟨0, ![]⟩

class Facts : Prop where
  bitsLt_bf16_f32 : FTy.bits .bf16 < FTy.bits .f32
  bcast_S_S8x4352x512 : S_.BroadcastsInDim S8x4352x512 (![] : Fin 0 → Fin S8x4352x512.rank)

variable [Facts]

def fn {F : FTy → Type} [FloatOps F] (main_arg0 : FVec F S8x4352x1024 .f32) (main_arg1 : FVec F S8x4096x512 .bf16) (main_arg2 : FVec F S8x4352x512 .bf16) (main_arg3 : FVec F S8x4352x512 .bf16) (main_arg4 : FVec F S8x4352x1024 .bf16) (main_arg5 : FVec F S2x16x3072 .f32) (main_arg6 : FVec F S2x64 .f32) (main_arg7 : FVec F S2x64 .f32) (main_arg8 : FVec F S2x1024x1024 .f32) (main_arg9 : FVec F S1024 .f32) : IVec S8x4352x512 1 :=
  let main_v0 : FVec F S8x4352x512 .f32 := (extf .f32 · bitsLt_bf16_f32) main_arg2
  let main_v1 : FVec F S8x4352x512 .f32 := (extf .f32 · bitsLt_bf16_f32) main_arg3
  let main_v2 : FVec F S8x4352x512 .f32 := addf main_v0 main_v1
  let main_v3 : FVec F S8x4352x512 .f32 := Host.absf main_v2
  let main_cst : FVec F S_ .f32 := constant S_ .f32 0x7F800000#32
  let main_v4 : FVec F S8x4352x512 .f32 := broadcastInDim S8x4352x512 ![] bcast_S_S8x4352x512 main_cst
  let main_v5 : IVec S8x4352x512 1 := cmpf .olt main_v3 main_v4
  main_v5
-- ==== Kernel.lean ====
abbrev S8x4352x1024 : Shape := ⟨3, ![8, 4352, 1024]⟩
abbrev S8x4096x512 : Shape := ⟨3, ![8, 4096, 512]⟩
abbrev S8x4352x512 : Shape := ⟨3, ![8, 4352, 512]⟩
abbrev S2x16x3072 : Shape := ⟨3, ![2, 16, 3072]⟩
abbrev S2x64 : Shape := ⟨2, ![2, 64]⟩
abbrev S2x1024x1024 : Shape := ⟨3, ![2, 1024, 1024]⟩
abbrev S1024 : Shape := ⟨1, ![1024]⟩
abbrev S256x256 : Shape := ⟨2, ![256, 256]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S1x16x3072 : Shape := ⟨3, ![1, 16, 3072]⟩
abbrev S16x3072 : Shape := ⟨2, ![16, 3072]⟩
abbrev S1x1024 : Shape := ⟨2, ![1, 1024]⟩
abbrev S8x4096x1024 : Shape := ⟨3, ![8, 4096, 1024]⟩
abbrev S1x1024x1024 : Shape := ⟨3, ![1, 1024, 1024]⟩
abbrev S1x1024x512 : Shape := ⟨3, ![1, 1024, 512]⟩
abbrev S1024x1024 : Shape := ⟨2, ![1024, 1024]⟩
abbrev S1x3072 : Shape := ⟨2, ![1, 3072]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 28
  | .vmem => 18
  | .smem => 0
  | _ => 0

abbrev bufTy : (tb : Table) → Fin (tcTables nBuf tb) → BufTy
  | .hbm, ⟨0, _⟩ => ⟨S8x4352x1024, .f32⟩
  | .hbm, ⟨1, _⟩ => ⟨S8x4096x512, .bf16⟩
  | .hbm, ⟨2, _⟩ => ⟨S8x4352x512, .bf16⟩
  | .hbm, ⟨3, _⟩ => ⟨S8x4352x512, .bf16⟩
  | .hbm, ⟨4, _⟩ => ⟨S8x4352x1024, .bf16⟩
  | .hbm, ⟨5, _⟩ => ⟨S2x16x3072, .f32⟩
  | .hbm, ⟨6, _⟩ => ⟨S2x64, .f32⟩
  | .hbm, ⟨7, _⟩ => ⟨S2x64, .f32⟩
  | .hbm, ⟨8, _⟩ => ⟨S2x1024x1024, .f32⟩
  | .hbm, ⟨9, _⟩ => ⟨S1024, .f32⟩
  | .hbm, ⟨10, _⟩ => ⟨S256x256, .bf16⟩
  | .hbm, ⟨11, _⟩ => ⟨S2x1024x1024, .bf16⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S4x64, .f32⟩
  | .hbm, ⟨22, _⟩ => ⟨S256, .f32⟩
  | .hbm, ⟨23, _⟩ => ⟨S1x256, .f32⟩
  | .hbm, ⟨24, _⟩ => ⟨S1x16x3072, .f32⟩
  | .hbm, ⟨25, _⟩ => ⟨S16x3072, .f32⟩
  | .hbm, ⟨26, _⟩ => ⟨S1x1024, .f32⟩
  | .hbm, ⟨27, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S16x3072, .f32⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S1x1024x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k0_mult2 (i : grid0.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k0_mult3 (i : grid0.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k0_mult4 (i : grid0.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def k0_off1 (i : grid0.Coords) : Fin 2 → Nat :=
  let arg0 : BitVec 32 := BitVec.ofNat 32 (i 0).val
  let v2 : Index := Scalar.indexCast arg0
  let c0_2 : Index := 0#32
  ![v2.toNat, 0]
def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4352x1024 : Shape := ⟨3, ![8, 4352, 1024]⟩
abbrev S8x4096x512 : Shape := ⟨3, ![8, 4096, 512]⟩
abbrev S8x4352x512 : Shape := ⟨3, ![8, 4352, 512]⟩
abbrev S2x16x3072 : Shape := ⟨3, ![2, 16, 3072]⟩
abbrev S2x64 : Shape := ⟨2, ![2, 64]⟩
abbrev S2x1024x1024 : Shape := ⟨3, ![2, 1024, 1024]⟩
abbrev S1024 : Shape := ⟨1, ![1024]⟩
abbrev S8x4096x1024 : Shape := ⟨3, ![8, 4096, 1024]⟩
abbrev S1x8x1024 : Shape := ⟨3, ![1, 8, 1024]⟩
abbrev S8x1024 : Shape := ⟨2, ![8, 1024]⟩
abbrev S8x1x1024 : Shape := ⟨3, ![8, 1, 1024]⟩
abbrev S_ : Shape := ⟨0, ![]⟩
abbrev S8x4096x256 : Shape := ⟨3, ![8, 4096, 256]⟩
abbrev S1x64 : Shape := ⟨2, ![1, 64]⟩
abbrev S64 : Shape := ⟨1, ![64]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S1x1024x1024 : Shape := ⟨3, ![1, 1024, 1024]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4096x512, .bf16⟩
  | .hbm, ⟨2, _⟩ => ⟨S8x4352x512, .bf16⟩
  | .hbm, ⟨3, _⟩ => ⟨S8x4352x512, .bf16⟩
  | .hbm, ⟨4, _⟩ => ⟨S8x4352x1024, .bf16⟩
  | .hbm, ⟨5, _⟩ => ⟨S2x16x3072, .f32⟩
  | .hbm, ⟨6, _⟩ => ⟨S2x64, .f32⟩
  | .hbm, ⟨7, _⟩ => ⟨S2x64, .f32⟩
  | .hbm, ⟨8, _⟩ => ⟨S2x1024x1024, .f32⟩
  | .hbm, ⟨9, _⟩ => ⟨S1024, .f32⟩
  | .hbm, ⟨10, _⟩ => ⟨S8x4096x1024, .f32⟩
  | .hbm, ⟨11, _⟩ => ⟨S8x4096x512, .bf16⟩
  | .hbm, ⟨12, _⟩ => ⟨S8x4096x512, .f32⟩
  | .hbm, ⟨13, _⟩ => ⟨S8x4096x512, .bf16⟩
  | .hbm, ⟨14, _⟩ => ⟨S8x4096x512, .f32⟩
  | .hbm, ⟨15, _⟩ => ⟨S8x4096x512, .f32⟩
  | .hbm, ⟨16, _⟩ => ⟨S8x4096x1024, .bf16⟩
  | .hbm, ⟨17, _⟩ => ⟨S8x4096x1024, .f32⟩
  | .hbm, ⟨18, _⟩ => ⟨S1x8x1024, .f32⟩
  | .hbm, ⟨19, _⟩ => ⟨S8x1024, .f32⟩
  | .hbm, ⟨20, _⟩ => ⟨S8x1x1024, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S_, .f32⟩
  | .hbm, ⟨26, _⟩ => ⟨S8x4096x512, .f32⟩
  | .hbm, ⟨27, _⟩ => ⟨S8x4096x512, .f32⟩
  | .hbm, ⟨28, _⟩ => ⟨S_, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x256, .f32⟩
  | .hbm, ⟨34, _⟩ => ⟨S1x64, .f32⟩
  | .hbm, ⟨35, _⟩ => ⟨S64, .f32⟩
  | .hbm, ⟨36, _⟩ => ⟨S8x4096x256, .f32⟩
  | .hbm, ⟨37, _⟩ => ⟨S8x4096x4x64, .f32⟩
  | .hbm, ⟨38, _⟩ => ⟨S8x4096x4x64, .f32⟩
  | .hbm, ⟨39, _⟩ => ⟨S_, .f32⟩
  | .hbm, ⟨40, _⟩ => ⟨S8x4096x4, .f32⟩
  | .hbm, ⟨41, _⟩ => ⟨S8x4096x4x1, .f32⟩
  | .hbm, ⟨42, _⟩ => ⟨S_, .f32⟩
  | .hbm, ⟨43, _⟩ => ⟨S8x4096x4x1, .f32⟩
  | .hbm, ⟨44, _⟩ => ⟨S8x4096x4x1, .f32⟩
  | .hbm, ⟨45, _⟩ => ⟨S_, .f32⟩
  | .hbm, ⟨46, _⟩ => ⟨S8x4096x4x1, .f32⟩
  | .hbm, ⟨47, _⟩ => ⟨S8x4096x4x1, .f32⟩
  | .hbm, ⟨48, _⟩ => ⟨S8x4096x4x1, .f32⟩
  | .hbm, ⟨49, _⟩ => ⟨S8x4096x4x64, .f32⟩
  | .hbm, ⟨50, _⟩ => ⟨S8x4096x4x64, .f32⟩
  | .hbm, ⟨51, _⟩ => ⟨S1x1x1x64, .f32⟩
  | .hbm, ⟨52, _⟩ => ⟨S8x4096x4x64, .f32⟩
  | .hbm, ⟨53, _⟩ => ⟨S8x4096x4x64, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S_, .f32⟩
  | .hbm, ⟨58, _⟩ => ⟨S8x4096x256, .f32⟩
  | .hbm, ⟨59, _⟩ => ⟨S8x4096x256, .f32⟩
  | .hbm, ⟨60, _⟩ => ⟨S_, .f32⟩
  | .hbm, ⟨61, _⟩ => ⟨S8x4096x256, .f32⟩
  | .hbm, ⟨62, _⟩ => ⟨S8x4096x256, .f32⟩
  | .hbm, ⟨63, _⟩ => ⟨S8x4096x256, .f32⟩
  | .hbm, ⟨64, _⟩ => ⟨S8x4096x256, .f32⟩
  | .hbm, ⟨65, _⟩ => ⟨S8x4096x256, .f32⟩
  | .hbm, ⟨66, _⟩ => ⟨S1x64, .f32⟩
  | .hbm, ⟨67, _⟩ => ⟨S64, .f32⟩
  | .hbm, ⟨68, _⟩ => ⟨S8x4096x256, .f32⟩
  | .hbm, ⟨69, _⟩ => ⟨S8x4096x4x64, .f32⟩
  | .hbm, ⟨70, _⟩ => ⟨S8x4096x4x64, .f32⟩
  | .hbm, ⟨71, _⟩ => ⟨S_, .f32⟩
  | .hbm, ⟨72, _⟩ => ⟨S8x4096x4, .f32⟩
  | .hbm, ⟨73, _⟩ => ⟨S8x4096x4x1, .f32⟩
  | .hbm, ⟨74, _⟩ => ⟨S_, .f32⟩
  | .hbm, ⟨75, _⟩ => ⟨S8x4096x4x1, .f32⟩
  | .hbm, ⟨76, _⟩ => ⟨S8x4096x4x1, .f32⟩
  | .hbm, ⟨77, _⟩ => ⟨S_, .f32⟩
  | .hbm, ⟨78, _⟩ => ⟨S8x4096x4x1, .f32⟩
  | .hbm, ⟨79, _⟩ => ⟨S8x4096x4x1, .f32⟩
  | .hbm, ⟨80, _⟩ => ⟨S8x4096x4x1, .f32⟩
  | .hbm, ⟨81, _⟩ => ⟨S8x4096x4x64, .f32⟩
  | .hbm, ⟨82, _⟩ => ⟨S8x4096x4x64, .f32⟩
  | .hbm, ⟨83, _⟩ => ⟨S1x1x1x64, .f32⟩
  | .hbm, ⟨84, _⟩ => ⟨S8x4096x4x64, .f32⟩
  | .hbm, ⟨85, _⟩ => ⟨S8x4096x4x64, .f32⟩
  | .hbm, ⟨86, _⟩ => ⟨S8x4096x256, .f32⟩
  | .hbm, ⟨87, _⟩ => ⟨S8x4096x256, .f32⟩
  | .hbm, ⟨88, _⟩ => ⟨S8x4096x256, .f32⟩
  | .hbm, ⟨89, _⟩ => ⟨S_, .f32⟩
  | .hbm, ⟨90, _⟩ => ⟨S8x4096x256, .f32⟩
  | .hbm, ⟨91, _⟩ => ⟨S8x4096x256, .f32⟩
  | .hbm, ⟨92, _⟩ => ⟨S_, .f32⟩
  | .hbm, ⟨93, _⟩ => ⟨S8x4096x256, .f32⟩
  | .hbm, ⟨94, _⟩ => ⟨S8x4096x256, .f32⟩
  | .hbm, ⟨95, _⟩ => ⟨S8x4096x256, .f32⟩
  | .hbm, ⟨96, _⟩ => ⟨S8x4096x256, .f32⟩
  | .hbm, ⟨97, _⟩ => ⟨S8x4096x1024, .f32⟩
  | .hbm, ⟨98, _⟩ => ⟨S1x1024x1024, .f32⟩
  | .hbm, ⟨99, _⟩ => ⟨S1024x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S_, .f32⟩
  | .hbm, ⟨106, _⟩ => ⟨S8x4096, .f32⟩
  | .hbm, ⟨107, _⟩ => ⟨S8x4096x1, .f32⟩
  | .hbm, ⟨108, _⟩ => ⟨S_, .f32⟩
  | .hbm, ⟨109, _⟩ => ⟨S8x4096x1, .f32⟩
  | .hbm, ⟨110, _⟩ => ⟨S8x4096x1, .f32⟩
  | .hbm, ⟨111, _⟩ => ⟨S_, .f32⟩
  | .hbm, ⟨112, _⟩ => ⟨S8x4096x1, .f32⟩
  | .hbm, ⟨113, _⟩ => ⟨S8x4096x1, .f32⟩
  | .hbm, ⟨114, _⟩ => ⟨S8x4096x1, .f32⟩
  | .hbm, ⟨115, _⟩ => ⟨S8x4096x1024, .f32⟩
  | .hbm, ⟨116, _⟩ => ⟨S8x4096x1024, .f32⟩
  | .hbm, ⟨117, _⟩ => ⟨S1x1x1024, .f32⟩
  | .hbm, ⟨118, _⟩ => ⟨S8x4096x1024, .f32⟩
  | .hbm, ⟨119, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_cst_0 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_2 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_5 : Ref sig .tc := ⟨.hbm, 105, rfl⟩
abbrev main_v65 : Ref sig .tc := ⟨.hbm, 106, rfl⟩
abbrev main_v66 : Ref sig .tc := ⟨.hbm, 107, rfl⟩
abbrev main_cst_6 : Ref sig .tc := ⟨.hbm, 108, rfl⟩
abbrev main_v67 : Ref sig .tc := ⟨.hbm, 109, rfl⟩
abbrev main_v68 : Ref sig .tc := ⟨.hbm, 110, rfl⟩
abbrev main_cst_7 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩

abbrev nD : Nat := 1
abbrev τ : Topo := Topo.v7x

variable {F : FTy → Type} [FloatOps F]
-- ==== Kernel2.lean ====
abbrev S8x256x1024 : Shape := ⟨3, ![8, 256, 1024]⟩
abbrev S8x4096x1024 : Shape := ⟨3, ![8, 4096, 1024]⟩
abbrev S2x16x3072 : Shape := ⟨3, ![2, 16, 3072]⟩
abbrev S2x1024 : Shape := ⟨2, ![2, 1024]⟩
abbrev S2x1024x4128 : Shape := ⟨3, ![2, 1024, 4128]⟩
abbrev S_ : Shape := ⟨0, ![]⟩
abbrev S2x1024x4224 : Shape := ⟨3, ![2, 1024, 4224]⟩
abbrev S1x16x3072 : Shape := ⟨3, ![1, 16, 3072]⟩
abbrev S16x3072 : Shape := ⟨2, ![16, 3072]⟩
abbrev S1x1024 : Shape := ⟨2, ![1, 1024]⟩
abbrev S1024 : Shape := ⟨1, ![1024]⟩
abbrev S8x4x4352x128 : Shape := ⟨4, ![8, 4, 4352, 128]⟩
abbrev S8x4x34x128x128 : Shape := ⟨5, ![8, 4, 34, 128, 128]⟩
abbrev S8x4352x1024 : Shape := ⟨3, ![8, 4352, 1024]⟩
abbrev S8x4352x1664 : Shape := ⟨3, ![8, 4352, 1664]⟩
abbrev S1x256x1024 : Shape := ⟨3, ![1, 256, 1024]⟩
abbrev S1x1024x4224 : Shape := ⟨3, ![1, 1024, 4224]⟩
abbrev S1x4x256x128 : Shape := ⟨4, ![1, 4, 256, 128]⟩
abbrev S1x4x2x128x128 : Shape := ⟨5, ![1, 4, 2, 128, 128]⟩
abbrev S1x256x1664 : Shape := ⟨3, ![1, 256, 1664]⟩
abbrev S256x1024 : Shape := ⟨2, ![256, 1024]⟩
abbrev S1x3072 : Shape := ⟨2, ![1, 3072]⟩
abbrev S256 : Shape := ⟨1, ![256]⟩
abbrev S256x1 : Shape := ⟨2, ![256, 1]⟩
abbrev S1024x4224 : Shape := ⟨2, ![1024, 4224]⟩
abbrev S256x4224 : Shape := ⟨2, ![256, 4224]⟩
abbrev S256x128 : Shape := ⟨2, ![256, 128]⟩
abbrev S1x1x256x128 : Shape := ⟨4, ![1, 1, 256, 128]⟩
abbrev S128x128 : Shape := ⟨2, ![128, 128]⟩
abbrev S1x1x1x128x128 : Shape := ⟨5, ![1, 1, 1, 128, 128]⟩
abbrev S256x1664 : Shape := ⟨2, ![256, 1664]⟩
abbrev S256x512 : Shape := ⟨2, ![256, 512]⟩
abbrev S256x256 : Shape := ⟨2, ![256, 256]⟩

abbrev nBuf : Space → Nat
  | .hbm => 19
  | .vmem => 17
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S2x16x3072, .f32⟩
  | .hbm, ⟨3, _⟩ => ⟨S2x1024, .f32⟩
  | .hbm, ⟨4, _⟩ => ⟨S2x1024x4128, .f32⟩
  | .hbm, ⟨5, _⟩ => ⟨S2x1024x4128, .bf16⟩
  | .hbm, ⟨6, _⟩ => ⟨S_, .i32⟩
  | .hbm, ⟨7, _⟩ => ⟨S_, .bf16⟩
  | .hbm, ⟨8, _⟩ => ⟨S2x1024x4224, .bf16⟩
  | .hbm, ⟨9, _⟩ => ⟨S1x16x3072, .f32⟩
  | .hbm, ⟨10, _⟩ => ⟨S16x3072, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8x4x4352x128, .bf16⟩
  | .hbm, ⟨15, _⟩ => ⟨S8x4x4352x128, .bf16⟩
  | .hbm, ⟨16, _⟩ => ⟨S8x4x34x128x128, .bf16⟩
  | .hbm, ⟨17, _⟩ => ⟨S8x4352x1024, .bf16⟩
  | .hbm, ⟨18, _⟩ => ⟨S8x4352x1664, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S16x3072, .f32⟩
  | .local _ .vmem, ⟨5, _⟩ => ⟨S1x1024, .f32⟩
  | .local _ .vmem, ⟨6, _⟩ => ⟨S1x1024x4224, .bf16⟩
  | .local _ .vmem, ⟨7, _⟩ => ⟨S1x4x256x128, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x4x256x128, .bf16⟩
  | .local _ .vmem, ⟨11, _⟩ => ⟨S1x4x2x128x128, .bf16⟩
  | .local _ .vmem, ⟨12, _⟩ => ⟨S1x4x2x128x128, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1664, .f32⟩
  | .local _ .vmem, ⟨16, _⟩ => ⟨S1x256x1664, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 17], ![false, false]⟩

def k0_off1 (i : grid0.Coords) : Fin 2 → Nat :=
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c8_i32 : BitVec 32 := 8#32
  let arg0 : BitVec 32 := BitVec.ofNat 32 (i 0).val
  let v7 : BitVec 32 := Scalar.select v1 c8_i32 arg0
  let v8 : Index := Scalar.indexCast v7
  let c0_5 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x2x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1664 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x256x1024 : Shape := ⟨3, ![8, 256, 1024]⟩
abbrev S8x4096x1024 : Shape := ⟨3, ![8, 4096, 1024]⟩
abbrev S2x16x3072 : Shape := ⟨3, ![2, 16, 3072]⟩
abbrev S2x1024 : Shape := ⟨2, ![2, 1024]⟩
abbrev S2x1024x4128 : Shape := ⟨3, ![2, 1024, 4128]⟩
abbrev S1x16x3072 : Shape := ⟨3, ![1, 16, 3072]⟩
abbrev S16x3072 : Shape := ⟨2, ![16, 3072]⟩
abbrev S1x1024 : Shape := ⟨2, ![1, 1024]⟩
abbrev S1024 : Shape := ⟨1, ![1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S1x1024x4128 : Shape := ⟨3, ![1, 1024, 4128]⟩
abbrev S1024x4128 : Shape := ⟨2, ![1024, 4128]⟩
abbrev S8x256x4128 : Shape := ⟨3, ![8, 256, 4128]⟩
abbrev S8x4096x4128 : Shape := ⟨3, ![8, 4096, 4128]⟩
abbrev S8x4352x4128 : Shape := ⟨3, ![8, 4352, 4128]⟩
abbrev S8x4352x512 : Shape := ⟨3, ![8, 4352, 512]⟩
abbrev S8x4352x128 : Shape := ⟨3, ![8, 4352, 128]⟩
abbrev S8x4352x256 : Shape := ⟨3, ![8, 4352, 256]⟩
abbrev S8x4352x32 : Shape := ⟨3, ![8, 4352, 32]⟩
abbrev S8x4352x4x128 : Shape := ⟨4, ![8, 4352, 4, 128]⟩
abbrev S8x4x4352x128 : Shape := ⟨4, ![8, 4, 4352, 128]⟩
abbrev S8x34x128x4x128 : Shape := ⟨5, ![8, 34, 128, 4, 128]⟩
abbrev S8x4x34x128x128 : Shape := ⟨5, ![8, 4, 34, 128, 128]⟩
abbrev S8x4352x1024 : Shape := ⟨3, ![8, 4352, 1024]⟩
abbrev S8x4352x96 : Shape := ⟨3, ![8, 4352, 96]⟩
abbrev S8x4352x1664 : Shape := ⟨3, ![8, 4352, 1664]⟩

abbrev nBuf : Space → Nat
  | .hbm => 100
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S2x16x3072, .f32⟩
  | .hbm, ⟨3, _⟩ => ⟨S2x1024, .f32⟩
  | .hbm, ⟨4, _⟩ => ⟨S2x1024x4128, .f32⟩
  | .hbm, ⟨5, _⟩ => ⟨S1x16x3072, .f32⟩
  | .hbm, ⟨6, _⟩ => ⟨S16x3072, .f32⟩
  | .hbm, ⟨7, _⟩ => ⟨S1x1024, .f32⟩
  | .hbm, ⟨8, _⟩ => ⟨S1024, .f32⟩
  | .hbm, ⟨9, _⟩ => ⟨S8x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x256x1024, .f32⟩
  | .hbm, ⟨41, _⟩ => ⟨S_, .f32⟩
  | .hbm, ⟨42, _⟩ => ⟨S8x256, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S_, .f32⟩
  | .hbm, ⟨48, _⟩ => ⟨S8x256x1, .f32⟩
  | .hbm, ⟨49, _⟩ => ⟨S8x256x1, .f32⟩
  | .hbm, ⟨50, _⟩ => ⟨S8x256x1, .f32⟩
  | .hbm, ⟨51, _⟩ => ⟨S8x256x1024, .f32⟩
  | .hbm, ⟨52, _⟩ => ⟨S8x256x1024, .f32⟩
  | .hbm, ⟨53, _⟩ => ⟨S1x1x1024, .f32⟩
  | .hbm, ⟨54, _⟩ => ⟨S8x256x1024, .f32⟩
  | .hbm, ⟨55, _⟩ => ⟨S8x256x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S1x1x1024, .f32⟩
  | .hbm, ⟨63, _⟩ => ⟨S8x256x1024, .f32⟩
  | .hbm, ⟨64, _⟩ => ⟨S8x256x1024, .f32⟩
  | .hbm, ⟨65, _⟩ => ⟨S1x1024x4128, .f32⟩
  | .hbm, ⟨66, _⟩ => ⟨S1024x4128, .f32⟩
  | .hbm, ⟨67, _⟩ => ⟨S8x256x4128, .f32⟩
  | .hbm, ⟨68, _⟩ => ⟨S8x4096x4128, .f32⟩
  | .hbm, ⟨69, _⟩ => ⟨S8x4352x4128, .f32⟩
  | .hbm, ⟨70, _⟩ => ⟨S8x4352x512, .f32⟩
  | .hbm, ⟨71, _⟩ => ⟨S8x4352x512, .f32⟩
  | .hbm, ⟨72, _⟩ => ⟨S8x4352x512, .f32⟩
  | .hbm, ⟨73, _⟩ => ⟨S8x4352x512, .f32⟩
  | .hbm, ⟨74, _⟩ => ⟨S8x4352x128, .f32⟩
  | .hbm, ⟨75, _⟩ => ⟨S8x4352x128, .f32⟩
  | .hbm, ⟨76, _⟩ => ⟨S8x4352x256, .f32⟩
  | .hbm, ⟨77, _⟩ => ⟨S8x4352x32, .f32⟩
  | .hbm, ⟨78, _⟩ => ⟨S8x4352x256, .f32⟩
  | .hbm, ⟨79, _⟩ => ⟨S8x4352x256, .f32⟩
  | .hbm, ⟨80, _⟩ => ⟨S8x4352x256, .f32⟩
  | .hbm, ⟨81, _⟩ => ⟨S8x4352x256, .f32⟩
  | .hbm, ⟨82, _⟩ => ⟨S8x4352x256, .f32⟩
  | .hbm, ⟨83, _⟩ => ⟨S8x4352x256, .f32⟩
  | .hbm, ⟨84, _⟩ => ⟨S_, .f32⟩
  | .hbm, ⟨85, _⟩ => ⟨S8x4352x512, .f32⟩
  | .hbm, ⟨86, _⟩ => ⟨S8x4352x512, .f32⟩
  | .hbm, ⟨87, _⟩ => ⟨S8x4352x4x128, .f32⟩
  | .hbm, ⟨88, _⟩ => ⟨S8x4x4352x128, .f32⟩
  | .hbm, ⟨89, _⟩ => ⟨S8x4352x4x128, .f32⟩
  | .hbm, ⟨90, _⟩ => ⟨S8x4x4352x128, .f32⟩
  | .hbm, ⟨91, _⟩ => ⟨S8x34x128x4x128, .f32⟩
  | .hbm, ⟨92, _⟩ => ⟨S8x4x34x128x128, .f32⟩
  | .hbm, ⟨93, _⟩ => ⟨S8x4352x1024, .f32⟩
  | .hbm, ⟨94, _⟩ => ⟨S8x4352x96, .f32⟩
  | .hbm, ⟨95, _⟩ => ⟨S8x4352x1664, .f32⟩
  | .hbm, ⟨96, _⟩ => ⟨S8x4x4352x128, .bf16⟩
  | .hbm, ⟨97, _⟩ => ⟨S8x4x4352x128, .bf16⟩
  | .hbm, ⟨98, _⟩ => ⟨S8x4x34x128x128, .bf16⟩
  | .hbm, ⟨99, _⟩ => ⟨S8x4352x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩

abbrev nD : Nat := 1
abbrev τ : Topo := Topo.v7x

variable {F : FTy → Type} [FloatOps F]
-- ==== Kernel3.lean ====
abbrev S8x256x1024 : Shape := ⟨3, ![8, 256, 1024]⟩
abbrev S8x4096x1024 : Shape := ⟨3, ![8, 4096, 1024]⟩
abbrev S8x4352x512 : Shape := ⟨3, ![8, 4352, 512]⟩
abbrev S8x4352x1024 : Shape := ⟨3, ![8, 4352, 1024]⟩
abbrev S2x16x3072 : Shape := ⟨3, ![2, 16, 3072]⟩
abbrev S2x64 : Shape := ⟨2, ![2, 64]⟩
abbrev S2x1024x1024 : Shape := ⟨3, ![2, 1024, 1024]⟩
abbrev S2x1024 : Shape := ⟨2, ![2, 1024]⟩
abbrev S2x1024x4128 : Shape := ⟨3, ![2, 1024, 4128]⟩
abbrev S256x256 : Shape := ⟨2, ![256, 256]⟩
abbrev S_ : Shape := ⟨0, ![]⟩
abbrev S2x1024x4224 : Shape := ⟨3, ![2, 1024, 4224]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S1x16x3072 : Shape := ⟨3, ![1, 16, 3072]⟩
abbrev S16x3072 : Shape := ⟨2, ![16, 3072]⟩
abbrev S1x1024 : Shape := ⟨2, ![1, 1024]⟩
abbrev S1024 : Shape := ⟨1, ![1024]⟩
abbrev S8x4x4352x128 : Shape := ⟨4, ![8, 4, 4352, 128]⟩
abbrev S8x4x34x128x128 : Shape := ⟨5, ![8, 4, 34, 128, 128]⟩
abbrev S8x4352x1664 : Shape := ⟨3, ![8, 4352, 1664]⟩
abbrev S1x256x1024 : Shape := ⟨3, ![1, 256, 1024]⟩
abbrev S1x256x512 : Shape := ⟨3, ![1, 256, 512]⟩
abbrev S1x1024x1024 : Shape := ⟨3, ![1, 1024, 1024]⟩
abbrev S1x1024x4224 : Shape := ⟨3, ![1, 1024, 4224]⟩
abbrev S1x4x256x128 : Shape := ⟨4, ![1, 4, 256, 128]⟩
abbrev S1x4x2x128x128 : Shape := ⟨5, ![1, 4, 2, 128, 128]⟩
abbrev S1x256x1664 : Shape := ⟨3, ![1, 256, 1664]⟩
abbrev S256x1024 : Shape := ⟨2, ![256, 1024]⟩
abbrev S1x3072 : Shape := ⟨2, ![1, 3072]⟩
abbrev S256x512 : Shape := ⟨2, ![256, 512]⟩
abbrev S1024x1024 : Shape := ⟨2, ![1024, 1024]⟩
abbrev S256x1 : Shape := ⟨2, ![256, 1]⟩
abbrev S1024x4224 : Shape := ⟨2, ![1024, 4224]⟩
abbrev S256x4224 : Shape := ⟨2, ![256, 4224]⟩
abbrev S256x128 : Shape := ⟨2, ![256, 128]⟩
abbrev S1x1x256x128 : Shape := ⟨4, ![1, 1, 256, 128]⟩
abbrev S128x128 : Shape := ⟨2, ![128, 128]⟩
abbrev S1x1x1x128x128 : Shape := ⟨5, ![1, 1, 1, 128, 128]⟩
abbrev S256x1664 : Shape := ⟨2, ![256, 1664]⟩

abbrev nBuf : Space → Nat
  | .hbm => 43
  | .vmem => 32
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x4352x512, .bf16⟩
  | .hbm, ⟨3, _⟩ => ⟨S8x4352x512, .bf16⟩
  | .hbm, ⟨4, _⟩ => ⟨S8x4352x512, .bf16⟩
  | .hbm, ⟨5, _⟩ => ⟨S8x4352x1024, .bf16⟩
  | .hbm, ⟨6, _⟩ => ⟨S2x16x3072, .f32⟩
  | .hbm, ⟨7, _⟩ => ⟨S2x64, .f32⟩
  | .hbm, ⟨8, _⟩ => ⟨S2x64, .f32⟩
  | .hbm, ⟨9, _⟩ => ⟨S2x1024x1024, .f32⟩
  | .hbm, ⟨10, _⟩ => ⟨S2x1024, .f32⟩
  | .hbm, ⟨11, _⟩ => ⟨S2x1024x4128, .f32⟩
  | .hbm, ⟨12, _⟩ => ⟨S256x256, .bf16⟩
  | .hbm, ⟨13, _⟩ => ⟨S2x1024x4128, .bf16⟩
  | .hbm, ⟨14, _⟩ => ⟨S_, .i32⟩
  | .hbm, ⟨15, _⟩ => ⟨S_, .bf16⟩
  | .hbm, ⟨16, _⟩ => ⟨S2x1024x4224, .bf16⟩
  | .hbm, ⟨17, _⟩ => ⟨S2x1024x1024, .bf16⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S4x64, .f32⟩
  | .hbm, ⟨22, _⟩ => ⟨S256, .f32⟩
  | .hbm, ⟨23, _⟩ => ⟨S1x256, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S4x64, .f32⟩
  | .hbm, ⟨28, _⟩ => ⟨S256, .f32⟩
  | .hbm, ⟨29, _⟩ => ⟨S1x256, .f32⟩
  | .hbm, ⟨30, _⟩ => ⟨S1x16x3072, .f32⟩
  | .hbm, ⟨31, _⟩ => ⟨S16x3072, .f32⟩
  | .hbm, ⟨32, _⟩ => ⟨S1x16x3072, .f32⟩
  | .hbm, ⟨33, _⟩ => ⟨S16x3072, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S8x4352x1024, .f32⟩
  | .hbm, ⟨38, _⟩ => ⟨S8x4x4352x128, .bf16⟩
  | .hbm, ⟨39, _⟩ => ⟨S8x4x4352x128, .bf16⟩
  | .hbm, ⟨40, _⟩ => ⟨S8x4x34x128x128, .bf16⟩
  | .hbm, ⟨41, _⟩ => ⟨S8x4352x1024, .bf16⟩
  | .hbm, ⟨42, _⟩ => ⟨S8x4352x1664, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S16x3072, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S1x1024x1024, .bf16⟩
  | .local _ .vmem, ⟨17, _⟩ => ⟨S16x3072, .f32⟩
  | .local _ .vmem, ⟨18, _⟩ => ⟨S1x1024, .f32⟩
  | .local _ .vmem, ⟨19, _⟩ => ⟨S1x1024x4224, .bf16⟩
  | .local _ .vmem, ⟨20, _⟩ => ⟨S1x256x1024, .f32⟩
  | .local _ .vmem, ⟨21, _⟩ => ⟨S1x256x1024, .f32⟩
  | .local _ .vmem, ⟨22, _⟩ => ⟨S1x4x256x128, .bf16⟩
  | .local _ .vmem, ⟨23, _⟩ => ⟨S1x4x256x128, .bf16⟩
  | .local _ .vmem, ⟨24, _⟩ => ⟨S1x4x256x128, .bf16⟩
  | .local _ .vmem, ⟨25, _⟩ => ⟨S1x4x256x128, .bf16⟩
  | .local _ .vmem, ⟨26, _⟩ => ⟨S1x4x2x128x128, .bf16⟩
  | .local _ .vmem, ⟨27, _⟩ => ⟨S1x4x2x128x128, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1664, .f32⟩
  | .local _ .vmem, ⟨31, _⟩ => ⟨S1x256x1664, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev main_v22_4 : Ref sig .tc := ⟨.hbm, 41, rfl⟩
abbrev main_v22_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![8, 17], ![false, false]⟩

def k0_off1 (i : grid0.Coords) : Fin 2 → Nat :=
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c8_i32 : BitVec 32 := 8#32
  let arg0 : BitVec 32 := BitVec.ofNat 32 (i 0).val
  let v7 : BitVec 32 := Scalar.select v1 c8_i32 arg0
  let v8 : Index := Scalar.indexCast v7
  let c0_5 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x4224 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x2x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1664 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8x256x1024 : Shape := ⟨3, ![8, 256, 1024]⟩
abbrev S8x4096x1024 : Shape := ⟨3, ![8, 4096, 1024]⟩
abbrev S8x4352x512 : Shape := ⟨3, ![8, 4352, 512]⟩
abbrev S8x4352x1024 : Shape := ⟨3, ![8, 4352, 1024]⟩
abbrev S2x16x3072 : Shape := ⟨3, ![2, 16, 3072]⟩
abbrev S2x64 : Shape := ⟨2, ![2, 64]⟩
abbrev S2x1024x1024 : Shape := ⟨3, ![2, 1024, 1024]⟩
abbrev S2x1024 : Shape := ⟨2, ![2, 1024]⟩
abbrev S2x1024x4128 : Shape := ⟨3, ![2, 1024, 4128]⟩
abbrev S_ : Shape := ⟨0, ![]⟩
abbrev S8x4352x256 : Shape := ⟨3, ![8, 4352, 256]⟩
abbrev S1x64 : Shape := ⟨2, ![1, 64]⟩
abbrev S64 : Shape := ⟨1, ![64]⟩
abbrev S8x4352x4x64 : Shape := ⟨4, ![8, 4352, 4, 64]⟩
abbrev S8x4352x4 : Shape := ⟨3, ![8, 4352, 4]⟩
abbrev S8x4352x4x1 : Shape := ⟨4, ![8, 4352, 4, 1]⟩
abbrev S1x1x1x64 : Shape := ⟨4, ![1, 1, 1, 64]⟩
abbrev S1x1024x1024 : Shape := ⟨3, ![1, 1024, 1024]⟩
abbrev S1024x1024 : Shape := ⟨2, ![1024, 1024]⟩
abbrev S1x8x1024 : Shape := ⟨3, ![1, 8, 1024]⟩
abbrev S8x1024 : Shape := ⟨2, ![8, 1024]⟩
abbrev S8x1x1024 : Shape := ⟨3, ![8, 1, 1024]⟩
abbrev S1x1x1024 : Shape := ⟨3, ![1, 1, 1024]⟩
abbrev S1024 : Shape := ⟨1, ![1024]⟩
abbrev S1x16x3072 : Shape := ⟨3, ![1, 16, 3072]⟩
abbrev S16x3072 : Shape := ⟨2, ![16, 3072]⟩
abbrev S1x1024 : Shape := ⟨2, ![1, 1024]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S1x1024x4128 : Shape := ⟨3, ![1, 1024, 4128]⟩
abbrev S1024x4128 : Shape := ⟨2, ![1024, 4128]⟩
abbrev S8x256x4128 : Shape := ⟨3, ![8, 256, 4128]⟩
abbrev S8x4096x4128 : Shape := ⟨3, ![8, 4096, 4128]⟩
abbrev S8x4352x4128 : Shape := ⟨3, ![8, 4352, 4128]⟩
abbrev S8x4352x128 : Shape := ⟨3, ![8, 4352, 128]⟩
abbrev S8x4352x32 : Shape := ⟨3, ![8, 4352, 32]⟩
abbrev S8x4352x4x128 : Shape := ⟨4, ![8, 4352, 4, 128]⟩
abbrev S8x4x4352x128 : Shape := ⟨4, ![8, 4, 4352, 128]⟩
abbrev S8x34x128x4x128 : Shape := ⟨5, ![8, 34, 128, 4, 128]⟩
abbrev S8x4x34x128x128 : Shape := ⟨5, ![8, 4, 34, 128, 128]⟩
abbrev S8x4352x96 : Shape := ⟨3, ![8, 4352, 96]⟩
abbrev S8x4352x1664 : Shape := ⟨3, ![8, 4352, 1664]⟩

abbrev nBuf : Space → Nat
  | .hbm => 206
  | .vmem => 0
  | .smem => 0
  | _ => 0

abbrev hbmTy0_0 (i : Nat) : BufTy := match i % 128 with
  | 0 => ⟨S8x256x1024, .f32⟩
  | 1 => ⟨S8x4096x1024, .f32⟩
  | 2 => ⟨S8x4352x512, .bf16⟩
  | 3 => ⟨S8x4352x512, .bf16⟩
  | 4 => ⟨S8x4352x512, .bf16⟩
  | 5 => ⟨S8x4352x1024, .bf16⟩
  | 6 => ⟨S2x16x3072, .f32⟩
  | 7 => ⟨S2x64, .f32⟩
  | 8 => ⟨S2x64, .f32⟩
  | 9 => ⟨S2x1024x1024, .f32⟩
  | 10 => ⟨S2x1024, .f32⟩
  | 11 => ⟨S2x1024x4128, .f32⟩
  | 12 => ⟨S8x4352x512, .f32⟩
  | 13 => ⟨S8x4352x512, .f32⟩
  | 14 => ⟨S8x4352x512, .f32⟩
  | 15 => ⟨S8x4352x1024, .f32⟩
  | 16 => ⟨S8x4352x512, .f32⟩
  | 17 => ⟨S8x4352x512, .f32⟩
  | 18 => ⟨S8x4352x512, .f32⟩
  | 19 => ⟨S8x4352x512, .f32⟩
  | 20 => ⟨S_, .f32⟩
  | 21 => ⟨S8x4352x512, .f32⟩
  | 22 => ⟨S8x4352x512, .f32⟩
  | 23 => ⟨S_, .f32⟩
  | 24 => ⟨S8x4352x512, .f32⟩
  | 25 => ⟨S8x4352x512, .f32⟩
  | 26 => ⟨S8x4352x512, .f32⟩
  | 27 => ⟨S8x4352x512, .f32⟩
  | 28 => ⟨S8x4352x256, .f32⟩
  | 29 => ⟨S1x64, .f32⟩
  | 30 => ⟨S64, .f32⟩
  | 31 => ⟨S8x4352x256, .f32⟩
  | 32 => ⟨S8x4352x4x64, .f32⟩
  | 33 => ⟨S8x4352x4x64, .f32⟩
  | 34 => ⟨S_, .f32⟩
  | 35 => ⟨S8x4352x4, .f32⟩
  | 36 => ⟨S8x4352x4x1, .f32⟩
  | 37 => ⟨S_, .f32⟩
  | 38 => ⟨S8x4352x4x1, .f32⟩
  | 39 => ⟨S8x4352x4x1, .f32⟩
  | 40 => ⟨S_, .f32⟩
  | 41 => ⟨S8x4352x4x1, .f32⟩
  | 42 => ⟨S8x4352x4x1, .f32⟩
  | 43 => ⟨S8x4352x4x1, .f32⟩
  | 44 => ⟨S8x4352x4x64, .f32⟩
  | 45 => ⟨S8x4352x4x64, .f32⟩
  | 46 => ⟨S1x1x1x64, .f32⟩
  | 47 => ⟨S8x4352x4x64, .f32⟩
  | 48 => ⟨S8x4352x4x64, .f32⟩
  | 49 => ⟨S8x4352x256, .f32⟩
  | 50 => ⟨S8x4352x256, .f32⟩
  | 51 => ⟨S8x4352x256, .f32⟩
  | 52 => ⟨S_, .f32⟩
  | 53 => ⟨S8x4352x256, .f32⟩
  | 54 => ⟨S8x4352x256, .f32⟩
  | 55 => ⟨S_, .f32⟩
  | 56 => ⟨S8x4352x256, .f32⟩
  | 57 => ⟨S8x4352x256, .f32⟩
  | 58 => ⟨S8x4352x256, .f32⟩
  | 59 => ⟨S8x4352x256, .f32⟩
  | 60 => ⟨S8x4352x256, .f32⟩
  | 61 => ⟨S1x64, .f32⟩
  | 62 => ⟨S64, .f32⟩
  | 63 => ⟨S8x4352x256, .f32⟩
  | 64 => ⟨S8x4352x4x64, .f32⟩
  | 65 => ⟨S8x4352x4x64, .f32⟩
  | 66 => ⟨S_, .f32⟩
  | 67 => ⟨S8x4352x4, .f32⟩
  | 68 => ⟨S8x4352x4x1, .f32⟩
  | 69 => ⟨S_, .f32⟩
  | 70 => ⟨S8x4352x4x1, .f32⟩
  | 71 => ⟨S8x4352x4x1, .f32⟩
  | 72 => ⟨S_, .f32⟩
  | 73 => ⟨S8x4352x4x1, .f32⟩
  | 74 => ⟨S8x4352x4x1, .f32⟩
  | 75 => ⟨S8x4352x4x1, .f32⟩
  | 76 => ⟨S8x4352x4x64, .f32⟩
  | 77 => ⟨S8x4352x4x64, .f32⟩
  | 78 => ⟨S1x1x1x64, .f32⟩
  | 79 => ⟨S8x4352x4x64, .f32⟩
  | 80 => ⟨S8x4352x4x64, .f32⟩
  | 81 => ⟨S8x4352x256, .f32⟩
  | 82 => ⟨S8x4352x256, .f32⟩
  | 83 => ⟨S8x4352x256, .f32⟩
  | 84 => ⟨S_, .f32⟩
  | 85 => ⟨S8x4352x256, .f32⟩
  | 86 => ⟨S8x4352x256, .f32⟩
  | 87 => ⟨S_, .f32⟩
  | 88 => ⟨S8x4352x256, .f32⟩
  | 89 => ⟨S8x4352x256, .f32⟩
  | 90 => ⟨S8x4352x256, .f32⟩
  | 91 => ⟨S8x4352x256, .f32⟩
  | 92 => ⟨S8x4352x1024, .f32⟩
  | 93 => ⟨S1x1024x1024, .f32⟩
  | 94 => ⟨S1024x1024, .f32⟩
  | 95 => ⟨S8x4352x1024, .f32⟩
  | 96 => ⟨S1x8x1024, .f32⟩
  | 97 => ⟨S8x1024, .f32⟩
  | 98 => ⟨S8x1x1024, .f32⟩
  | 99 => ⟨S8x4096x1024, .f32⟩
  | 100 => ⟨S8x4096x1024, .f32⟩
  | 101 => ⟨S8x4096x1024, .f32⟩
  | 102 => ⟨S8x4096x1024, .f32⟩
  | 103 => ⟨S1x1x1024, .f32⟩
  | 104 => ⟨S1024, .f32⟩
  | 105 => ⟨S8x256x1024, .f32⟩
  | 106 => ⟨S1x1x1024, .f32⟩
  | 107 => ⟨S8x256x1024, .f32⟩
  | 108 => ⟨S8x256x1024, .f32⟩
  | 109 => ⟨S8x256x1024, .f32⟩
  | 110 => ⟨S1x16x3072, .f32⟩
  | 111 => ⟨S16x3072, .f32⟩
  | 112 => ⟨S1x1024, .f32⟩
  | 113 => ⟨S1024, .f32⟩
  | 114 => ⟨S8x1024, .f32⟩
  | 115 => ⟨S8x1x1024, .f32⟩
  | 116 => ⟨S8x1024, .f32⟩
  | 117 => ⟨S8x1x1024, .f32⟩
  | 118 => ⟨S1x1024, .f32⟩
  | 119 => ⟨S1024, .f32⟩
  | 120 => ⟨S1x1024, .f32⟩
  | 121 => ⟨S1024, .f32⟩
  | 122 => ⟨S8x4096x1024, .f32⟩
  | 123 => ⟨S_, .f32⟩
  | 124 => ⟨S8x4096, .f32⟩
  | 125 => ⟨S8x4096x1, .f32⟩
  | 126 => ⟨S_, .f32⟩
  | 127 => ⟨S8x4096x1, .f32⟩
  | _ => ⟨S8x256x1024, .f32⟩

abbrev hbmTy0_1 (i : Nat) : BufTy := match i % 128 with
  | 0 => ⟨S8x4096x1, .f32⟩
  | 1 => ⟨S_, .f32⟩
  | 2 => ⟨S8x4096x1, .f32⟩
  | 3 => ⟨S8x4096x1, .f32⟩
  | 4 => ⟨S8x4096x1, .f32⟩
  | 5 => ⟨S8x4096x1024, .f32⟩
  | 6 => ⟨S8x4096x1024, .f32⟩
  | 7 => ⟨S1x1x1024, .f32⟩
  | 8 => ⟨S8x4096x1024, .f32⟩
  | 9 => ⟨S8x4096x1024, .f32⟩
  | 10 => ⟨S_, .f32⟩
  | 11 => ⟨S8x1x1024, .f32⟩
  | 12 => ⟨S8x1x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S8x256x1024, .f32⟩
  | 18 => ⟨S_, .f32⟩
  | 19 => ⟨S8x256, .f32⟩
  | 20 => ⟨S8x256x1, .f32⟩
  | 21 => ⟨S_, .f32⟩
  | 22 => ⟨S8x256x1, .f32⟩
  | 23 => ⟨S8x256x1, .f32⟩
  | 24 => ⟨S_, .f32⟩
  | 25 => ⟨S8x256x1, .f32⟩
  | 26 => ⟨S8x256x1, .f32⟩
  | 27 => ⟨S8x256x1, .f32⟩
  | 28 => ⟨S8x256x1024, .f32⟩
  | 29 => ⟨S8x256x1024, .f32⟩
  | 30 => ⟨S1x1x1024, .f32⟩
  | 31 => ⟨S8x256x1024, .f32⟩
  | 32 => ⟨S8x256x1024, .f32⟩
  | 33 => ⟨S_, .f32⟩
  | 34 => ⟨S1024, .f32⟩
  | 35 => ⟨S1024, .f32⟩
  | 36 => ⟨S1x1x1024, .f32⟩
  | 37 => ⟨S8x256x1024, .f32⟩
  | 38 => ⟨S8x256x1024, .f32⟩
  | 39 => ⟨S1x1x1024, .f32⟩
  | 40 => ⟨S8x256x1024, .f32⟩
  | 41 => ⟨S8x256x1024, .f32⟩
  | 42 => ⟨S8x4352x1024, .f32⟩
  | 43 => ⟨S1x1024x4128, .f32⟩
  | 44 => ⟨S1024x4128, .f32⟩
  | 45 => ⟨S8x256x4128, .f32⟩
  | 46 => ⟨S8x4096x4128, .f32⟩
  | 47 => ⟨S8x4352x4128, .f32⟩
  | 48 => ⟨S8x4352x512, .f32⟩
  | 49 => ⟨S8x4352x512, .f32⟩
  | 50 => ⟨S8x4352x512, .f32⟩
  | 51 => ⟨S8x4352x512, .f32⟩
  | 52 => ⟨S8x4352x128, .f32⟩
  | 53 => ⟨S8x4352x128, .f32⟩
  | 54 => ⟨S8x4352x256, .f32⟩
  | 55 => ⟨S8x4352x32, .f32⟩
  | 56 => ⟨S8x4352x256, .f32⟩
  | 57 => ⟨S8x4352x256, .f32⟩
  | 58 => ⟨S8x4352x256, .f32⟩
  | 59 => ⟨S8x4352x256, .f32⟩
  | 60 => ⟨S8x4352x256, .f32⟩
  | 61 => ⟨S8x4352x256, .f32⟩
  | 62 => ⟨S_, .f32⟩
  | 63 => ⟨S8x4352x512, .f32⟩
  | 64 => ⟨S8x4352x512, .f32⟩
  | 65 => ⟨S8x4352x4x128, .f32⟩
  | 66 => ⟨S8x4x4352x128, .f32⟩
  | 67 => ⟨S8x4352x4x128, .f32⟩
  | 68 => ⟨S8x4x4352x128, .f32⟩
  | 69 => ⟨S8x34x128x4x128, .f32⟩
  | 70 => ⟨S8x4x34x128x128, .f32⟩
  | 71 => ⟨S8x4352x1024, .f32⟩
  | 72 => ⟨S8x4352x96, .f32⟩
  | 73 => ⟨S8x4352x1664, .f32⟩
  | 74 => ⟨S8x4x4352x128, .bf16⟩
  | 75 => ⟨S8x4x4352x128, .bf16⟩
  | 76 => ⟨S8x4x34x128x128, .bf16⟩
  | 77 => ⟨S8x4352x1024, .bf16⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_2 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_cst_4 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_5 : Ref sig .tc := ⟨.hbm, 123, rfl⟩
abbrev main_v81 : Ref sig .tc := ⟨.hbm, 124, rfl⟩
abbrev main_v82 : Ref sig .tc := ⟨.hbm, 125, rfl⟩
abbrev main_cst_6 : Ref sig .tc := ⟨.hbm, 126, rfl⟩
abbrev main_v83 : Ref sig .tc := ⟨.hbm, 127, rfl⟩
abbrev main_v84 : Ref sig .tc := ⟨.hbm, 128, rfl⟩
abbrev main_cst_7 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_8 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_9 : Ref sig .tc := ⟨.hbm, 146, rfl⟩
abbrev main_v100 : Ref sig .tc := ⟨.hbm, 147, rfl⟩
abbrev main_v101 : Ref sig .tc := ⟨.hbm, 148, rfl⟩
abbrev main_cst_10 : Ref sig .tc := ⟨.hbm, 149, rfl⟩
abbrev main_v102 : Ref sig .tc := ⟨.hbm, 150, rfl⟩
abbrev main_v103 : Ref sig .tc := ⟨.hbm, 151, rfl⟩
abbrev main_cst_11 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_12 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_13 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S16x1024 : Shape := ⟨2, ![16, 1024]⟩
abbrev S1 : Shape := ⟨1, ![1]⟩
abbrev S2x1x3072 : Shape := ⟨3, ![2, 1, 3072]⟩
abbrev S2x16x3072 : Shape := ⟨3, ![2, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x3072, .f32⟩
  | .hbm, ⟨13, _⟩ => ⟨S2x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x3072 : Shape := ⟨3, ![1, 1024, 3072]⟩
abbrev S1024x3072 : Shape := ⟨2, ![1024, 3072]⟩
abbrev S16x3072 : Shape := ⟨2, ![16, 3072]⟩
abbrev S1x3072 : Shape := ⟨2, ![1, 3072]⟩
abbrev S3072 : Shape := ⟨1, ![3072]⟩
abbrev S1x16x3072 : Shape := ⟨3, ![1, 16, 3072]⟩
abbrev S2x16x3072 : Shape := ⟨3, ![2, 16, 3072]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x3072, .f32⟩
  | .hbm, ⟨18, _⟩ => ⟨S1024x3072, .f32⟩
  | .hbm, ⟨19, _⟩ => ⟨S16x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S16x3072, .f32⟩
  | .hbm, ⟨24, _⟩ => ⟨S16x3072, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x3072, .f32⟩
  | .hbm, ⟨35, _⟩ => ⟨S1024x3072, .f32⟩
  | .hbm, ⟨36, _⟩ => ⟨S16x3072, .f32⟩
  | .hbm, ⟨37, _⟩ => ⟨S1x3072, .f32⟩
  | .hbm, ⟨38, _⟩ => ⟨S3072, .f32⟩
  | .hbm, ⟨39, _⟩ => ⟨S1x3072, .f32⟩
  | .hbm, ⟨40, _⟩ => ⟨S16x3072, .f32⟩
  | .hbm, ⟨41, _⟩ => ⟨S16x3072, .f32⟩
  | .hbm, ⟨42, _⟩ => ⟨S1x16x3072, .f32⟩
  | .hbm, ⟨43, _⟩ => ⟨S1x16x3072, .f32⟩
  | .hbm, ⟨44, _⟩ => ⟨S2x16x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.BdTable.lean ====
module

public import proofs.«01_k».proof.KernelIdeal
public import Idealize.ShloMosaic.Lib.Pipeline.ValueKit

@[expose] public section

set_option maxRecDepth 65536

noncomputable section

namespace Cert.OutFinal.Bd

open Idealize.ShloMosaic Cert.KernelIdeal

/-- Two functions whose values listed over the first 128 numbers agree, agree at each of them. -/
theorem eq_of_lists (f g : Nat → BitVec 16) (h : (List.range 128).map f = (List.range 128).map g) (q : Nat)
    (hq : q < 128) : f q = g q :=
  List.map_inj_left.mp h q (List.mem_range.mpr hq)

/-- The half row of 128 entries number `n` of the table, one of three: the group on its left, the group on its right,
    or no group at all. -/
def half (n i : Nat) : BitVec 16 :=
  cond (Nat.beq (n / 2 / 64) (2 * (n % 2))) (lit0t0_0 i)
    (cond (Nat.beq (n / 2 / 64) (2 * (n % 2) + 1)) (lit0t0_128 i) (lit0t0_1 i))

/-- Half row number `0 + q`, as the table spells it. -/
def arms0 (q i : Nat) : BitVec 16 := match q with
  | 0 => lit0t0_0 i | 1 => lit0t0_1 i | 2 => lit0t0_2 i | 3 => lit0t0_3 i | 4 => lit0t0_4 i | 5 => lit0t0_5 i | 6 => lit0t0_6 i | 7 => lit0t0_7 i
  | 8 => lit0t0_8 i | 9 => lit0t0_9 i | 10 => lit0t0_10 i | 11 => lit0t0_11 i | 12 => lit0t0_12 i | 13 => lit0t0_13 i | 14 => lit0t0_14 i | 15 => lit0t0_15 i
  | 16 => lit0t0_16 i | 17 => lit0t0_17 i | 18 => lit0t0_18 i | 19 => lit0t0_19 i | 20 => lit0t0_20 i | 21 => lit0t0_21 i | 22 => lit0t0_22 i | 23 => lit0t0_23 i
  | 24 => lit0t0_24 i | 25 => lit0t0_25 i | 26 => lit0t0_26 i | 27 => lit0t0_27 i | 28 => lit0t0_28 i | 29 => lit0t0_29 i | 30 => lit0t0_30 i | 31 => lit0t0_31 i
  | 32 => lit0t0_32 i | 33 => lit0t0_33 i | 34 => lit0t0_34 i | 35 => lit0t0_35 i | 36 => lit0t0_36 i | 37 => lit0t0_37 i | 38 => lit0t0_38 i | 39 => lit0t0_39 i
  | 40 => lit0t0_40 i | 41 => lit0t0_41 i | 42 => lit0t0_42 i | 43 => lit0t0_43 i | 44 => lit0t0_44 i | 45 => lit0t0_45 i | 46 => lit0t0_46 i | 47 => lit0t0_47 i
  | 48 => lit0t0_48 i | 49 => lit0t0_49 i | 50 => lit0t0_50 i | 51 => lit0t0_51 i | 52 => lit0t0_52 i | 53 => lit0t0_53 i | 54 => lit0t0_54 i | 55 => lit0t0_55 i
  | 56 => lit0t0_56 i | 57 => lit0t0_57 i | 58 => lit0t0_58 i | 59 => lit0t0_59 i | 60 => lit0t0_60 i | 61 => lit0t0_61 i | 62 => lit0t0_62 i | 63 => lit0t0_63 i
  | 64 => lit0t0_64 i | 65 => lit0t0_65 i | 66 => lit0t0_66 i | 67 => lit0t0_67 i | 68 => lit0t0_68 i | 69 => lit0t0_69 i | 70 => lit0t0_70 i | 71 => lit0t0_71 i
  | 72 => lit0t0_72 i | 73 => lit0t0_73 i | 74 => lit0t0_74 i | 75 => lit0t0_75 i | 76 => lit0t0_76 i | 77 => lit0t0_77 i | 78 => lit0t0_78 i | 79 => lit0t0_79 i
  | 80 => lit0t0_80 i | 81 => lit0t0_81 i | 82 => lit0t0_82 i | 83 => lit0t0_83 i | 84 => lit0t0_84 i | 85 => lit0t0_85 i | 86 => lit0t0_86 i | 87 => lit0t0_87 i
  | 88 => lit0t0_88 i | 89 => lit0t0_89 i | 90 => lit0t0_90 i | 91 => lit0t0_91 i | 92 => lit0t0_92 i | 93 => lit0t0_93 i | 94 => lit0t0_94 i | 95 => lit0t0_95 i
  | 96 => lit0t0_96 i | 97 => lit0t0_97 i | 98 => lit0t0_98 i | 99 => lit0t0_99 i | 100 => lit0t0_100 i | 101 => lit0t0_101 i | 102 => lit0t0_102 i | 103 => lit0t0_103 i
  | 104 => lit0t0_104 i | 105 => lit0t0_105 i | 106 => lit0t0_106 i | 107 => lit0t0_107 i | 108 => lit0t0_108 i | 109 => lit0t0_109 i | 110 => lit0t0_110 i | 111 => lit0t0_111 i
  | 112 => lit0t0_112 i | 113 => lit0t0_113 i | 114 => lit0t0_114 i | 115 => lit0t0_115 i | 116 => lit0t0_116 i | 117 => lit0t0_117 i | 118 => lit0t0_118 i | 119 => lit0t0_119 i
  | 120 => lit0t0_120 i | 121 => lit0t0_121 i | 122 => lit0t0_122 i | 123 => lit0t0_123 i | 124 => lit0t0_124 i | 125 => lit0t0_125 i | 126 => lit0t0_126 i | 127 => lit0t0_127 i
  | _ => 0#16

/-- Quarter 0 of the table, half row by half row. -/
theorem quarter0 (i : Nat) : lit0t1_0 i = half (0 + i / 128 % 128) i :=
  (show lit0t1_0 i = arms0 (i / 128 % 128) i by sl_kernel_rfl).trans
    (eq_of_lists (fun q => arms0 q i) (fun q => half (0 + q) i) (by sl_kernel_rfl) _ (Nat.mod_lt _ (by decide)))

/-- Half row number `128 + q`, as the table spells it. -/
def arms1 (q i : Nat) : BitVec 16 := match q with
  | 0 => lit0t0_128 i | 1 => lit0t0_129 i | 2 => lit0t0_130 i | 3 => lit0t0_131 i | 4 => lit0t0_132 i | 5 => lit0t0_133 i | 6 => lit0t0_134 i | 7 => lit0t0_135 i
  | 8 => lit0t0_136 i | 9 => lit0t0_137 i | 10 => lit0t0_138 i | 11 => lit0t0_139 i | 12 => lit0t0_140 i | 13 => lit0t0_141 i | 14 => lit0t0_142 i | 15 => lit0t0_143 i
  | 16 => lit0t0_144 i | 17 => lit0t0_145 i | 18 => lit0t0_146 i | 19 => lit0t0_147 i | 20 => lit0t0_148 i | 21 => lit0t0_149 i | 22 => lit0t0_150 i | 23 => lit0t0_151 i
  | 24 => lit0t0_152 i | 25 => lit0t0_153 i | 26 => lit0t0_154 i | 27 => lit0t0_155 i | 28 => lit0t0_156 i | 29 => lit0t0_157 i | 30 => lit0t0_158 i | 31 => lit0t0_159 i
  | 32 => lit0t0_160 i | 33 => lit0t0_161 i | 34 => lit0t0_162 i | 35 => lit0t0_163 i | 36 => lit0t0_164 i | 37 => lit0t0_165 i | 38 => lit0t0_166 i | 39 => lit0t0_167 i
  | 40 => lit0t0_168 i | 41 => lit0t0_169 i | 42 => lit0t0_170 i | 43 => lit0t0_171 i | 44 => lit0t0_172 i | 45 => lit0t0_173 i | 46 => lit0t0_174 i | 47 => lit0t0_175 i
  | 48 => lit0t0_176 i | 49 => lit0t0_177 i | 50 => lit0t0_178 i | 51 => lit0t0_179 i | 52 => lit0t0_180 i | 53 => lit0t0_181 i | 54 => lit0t0_182 i | 55 => lit0t0_183 i
  | 56 => lit0t0_184 i | 57 => lit0t0_185 i | 58 => lit0t0_186 i | 59 => lit0t0_187 i | 60 => lit0t0_188 i | 61 => lit0t0_189 i | 62 => lit0t0_190 i | 63 => lit0t0_191 i
  | 64 => lit0t0_192 i | 65 => lit0t0_193 i | 66 => lit0t0_194 i | 67 => lit0t0_195 i | 68 => lit0t0_196 i | 69 => lit0t0_197 i | 70 => lit0t0_198 i | 71 => lit0t0_199 i
  | 72 => lit0t0_200 i | 73 => lit0t0_201 i | 74 => lit0t0_202 i | 75 => lit0t0_203 i | 76 => lit0t0_204 i | 77 => lit0t0_205 i | 78 => lit0t0_206 i | 79 => lit0t0_207 i
  | 80 => lit0t0_208 i | 81 => lit0t0_209 i | 82 => lit0t0_210 i | 83 => lit0t0_211 i | 84 => lit0t0_212 i | 85 => lit0t0_213 i | 86 => lit0t0_214 i | 87 => lit0t0_215 i
  | 88 => lit0t0_216 i | 89 => lit0t0_217 i | 90 => lit0t0_218 i | 91 => lit0t0_219 i | 92 => lit0t0_220 i | 93 => lit0t0_221 i | 94 => lit0t0_222 i | 95 => lit0t0_223 i
  | 96 => lit0t0_224 i | 97 => lit0t0_225 i | 98 => lit0t0_226 i | 99 => lit0t0_227 i | 100 => lit0t0_228 i | 101 => lit0t0_229 i | 102 => lit0t0_230 i | 103 => lit0t0_231 i
  | 104 => lit0t0_232 i | 105 => lit0t0_233 i | 106 => lit0t0_234 i | 107 => lit0t0_235 i | 108 => lit0t0_236 i | 109 => lit0t0_237 i | 110 => lit0t0_238 i | 111 => lit0t0_239 i
  | 112 => lit0t0_240 i | 113 => lit0t0_241 i | 114 => lit0t0_242 i | 115 => lit0t0_243 i | 116 => lit0t0_244 i | 117 => lit0t0_245 i | 118 => lit0t0_246 i | 119 => lit0t0_247 i
  | 120 => lit0t0_248 i | 121 => lit0t0_249 i | 122 => lit0t0_250 i | 123 => lit0t0_251 i | 124 => lit0t0_252 i | 125 => lit0t0_253 i | 126 => lit0t0_254 i | 127 => lit0t0_255 i
  | _ => 0#16

/-- Quarter 1 of the table, half row by half row. -/
theorem quarter1 (i : Nat) : lit0t1_1 i = half (128 + i / 128 % 128) i :=
  (show lit0t1_1 i = arms1 (i / 128 % 128) i by sl_kernel_rfl).trans
    (eq_of_lists (fun q => arms1 q i) (fun q => half (128 + q) i) (by sl_kernel_rfl) _ (Nat.mod_lt _ (by decide)))

/-- Half row number `256 + q`, as the table spells it. -/
def arms2 (q i : Nat) : BitVec 16 := match q with
  | 0 => lit0t0_256 i | 1 => lit0t0_257 i | 2 => lit0t0_258 i | 3 => lit0t0_259 i | 4 => lit0t0_260 i | 5 => lit0t0_261 i | 6 => lit0t0_262 i | 7 => lit0t0_263 i
  | 8 => lit0t0_264 i | 9 => lit0t0_265 i | 10 => lit0t0_266 i | 11 => lit0t0_267 i | 12 => lit0t0_268 i | 13 => lit0t0_269 i | 14 => lit0t0_270 i | 15 => lit0t0_271 i
  | 16 => lit0t0_272 i | 17 => lit0t0_273 i | 18 => lit0t0_274 i | 19 => lit0t0_275 i | 20 => lit0t0_276 i | 21 => lit0t0_277 i | 22 => lit0t0_278 i | 23 => lit0t0_279 i
  | 24 => lit0t0_280 i | 25 => lit0t0_281 i | 26 => lit0t0_282 i | 27 => lit0t0_283 i | 28 => lit0t0_284 i | 29 => lit0t0_285 i | 30 => lit0t0_286 i | 31 => lit0t0_287 i
  | 32 => lit0t0_288 i | 33 => lit0t0_289 i | 34 => lit0t0_290 i | 35 => lit0t0_291 i | 36 => lit0t0_292 i | 37 => lit0t0_293 i | 38 => lit0t0_294 i | 39 => lit0t0_295 i
  | 40 => lit0t0_296 i | 41 => lit0t0_297 i | 42 => lit0t0_298 i | 43 => lit0t0_299 i | 44 => lit0t0_300 i | 45 => lit0t0_301 i | 46 => lit0t0_302 i | 47 => lit0t0_303 i
  | 48 => lit0t0_304 i | 49 => lit0t0_305 i | 50 => lit0t0_306 i | 51 => lit0t0_307 i | 52 => lit0t0_308 i | 53 => lit0t0_309 i | 54 => lit0t0_310 i | 55 => lit0t0_311 i
  | 56 => lit0t0_312 i | 57 => lit0t0_313 i | 58 => lit0t0_314 i | 59 => lit0t0_315 i | 60 => lit0t0_316 i | 61 => lit0t0_317 i | 62 => lit0t0_318 i | 63 => lit0t0_319 i
  | 64 => lit0t0_320 i | 65 => lit0t0_321 i | 66 => lit0t0_322 i | 67 => lit0t0_323 i | 68 => lit0t0_324 i | 69 => lit0t0_325 i | 70 => lit0t0_326 i | 71 => lit0t0_327 i
  | 72 => lit0t0_328 i | 73 => lit0t0_329 i | 74 => lit0t0_330 i | 75 => lit0t0_331 i | 76 => lit0t0_332 i | 77 => lit0t0_333 i | 78 => lit0t0_334 i | 79 => lit0t0_335 i
  | 80 => lit0t0_336 i | 81 => lit0t0_337 i | 82 => lit0t0_338 i | 83 => lit0t0_339 i | 84 => lit0t0_340 i | 85 => lit0t0_341 i | 86 => lit0t0_342 i | 87 => lit0t0_343 i
  | 88 => lit0t0_344 i | 89 => lit0t0_345 i | 90 => lit0t0_346 i | 91 => lit0t0_347 i | 92 => lit0t0_348 i | 93 => lit0t0_349 i | 94 => lit0t0_350 i | 95 => lit0t0_351 i
  | 96 => lit0t0_352 i | 97 => lit0t0_353 i | 98 => lit0t0_354 i | 99 => lit0t0_355 i | 100 => lit0t0_356 i | 101 => lit0t0_357 i | 102 => lit0t0_358 i | 103 => lit0t0_359 i
  | 104 => lit0t0_360 i | 105 => lit0t0_361 i | 106 => lit0t0_362 i | 107 => lit0t0_363 i | 108 => lit0t0_364 i | 109 => lit0t0_365 i | 110 => lit0t0_366 i | 111 => lit0t0_367 i
  | 112 => lit0t0_368 i | 113 => lit0t0_369 i | 114 => lit0t0_370 i | 115 => lit0t0_371 i | 116 => lit0t0_372 i | 117 => lit0t0_373 i | 118 => lit0t0_374 i | 119 => lit0t0_375 i
  | 120 => lit0t0_376 i | 121 => lit0t0_377 i | 122 => lit0t0_378 i | 123 => lit0t0_379 i | 124 => lit0t0_380 i | 125 => lit0t0_381 i | 126 => lit0t0_382 i | 127 => lit0t0_383 i
  | _ => 0#16

/-- Quarter 2 of the table, half row by half row. -/
theorem quarter2 (i : Nat) : lit0t1_2 i = half (256 + i / 128 % 128) i :=
  (show lit0t1_2 i = arms2 (i / 128 % 128) i by sl_kernel_rfl).trans
    (eq_of_lists (fun q => arms2 q i) (fun q => half (256 + q) i) (by sl_kernel_rfl) _ (Nat.mod_lt _ (by decide)))

/-- Half row number `384 + q`, as the table spells it. -/
def arms3 (q i : Nat) : BitVec 16 := match q with
  | 0 => lit0t0_384 i | 1 => lit0t0_385 i | 2 => lit0t0_386 i | 3 => lit0t0_387 i | 4 => lit0t0_388 i | 5 => lit0t0_389 i | 6 => lit0t0_390 i | 7 => lit0t0_391 i
  | 8 => lit0t0_392 i | 9 => lit0t0_393 i | 10 => lit0t0_394 i | 11 => lit0t0_395 i | 12 => lit0t0_396 i | 13 => lit0t0_397 i | 14 => lit0t0_398 i | 15 => lit0t0_399 i
  | 16 => lit0t0_400 i | 17 => lit0t0_401 i | 18 => lit0t0_402 i | 19 => lit0t0_403 i | 20 => lit0t0_404 i | 21 => lit0t0_405 i | 22 => lit0t0_406 i | 23 => lit0t0_407 i
  | 24 => lit0t0_408 i | 25 => lit0t0_409 i | 26 => lit0t0_410 i | 27 => lit0t0_411 i | 28 => lit0t0_412 i | 29 => lit0t0_413 i | 30 => lit0t0_414 i | 31 => lit0t0_415 i
  | 32 => lit0t0_416 i | 33 => lit0t0_417 i | 34 => lit0t0_418 i | 35 => lit0t0_419 i | 36 => lit0t0_420 i | 37 => lit0t0_421 i | 38 => lit0t0_422 i | 39 => lit0t0_423 i
  | 40 => lit0t0_424 i | 41 => lit0t0_425 i | 42 => lit0t0_426 i | 43 => lit0t0_427 i | 44 => lit0t0_428 i | 45 => lit0t0_429 i | 46 => lit0t0_430 i | 47 => lit0t0_431 i
  | 48 => lit0t0_432 i | 49 => lit0t0_433 i | 50 => lit0t0_434 i | 51 => lit0t0_435 i | 52 => lit0t0_436 i | 53 => lit0t0_437 i | 54 => lit0t0_438 i | 55 => lit0t0_439 i
  | 56 => lit0t0_440 i | 57 => lit0t0_441 i | 58 => lit0t0_442 i | 59 => lit0t0_443 i | 60 => lit0t0_444 i | 61 => lit0t0_445 i | 62 => lit0t0_446 i | 63 => lit0t0_447 i
  | 64 => lit0t0_448 i | 65 => lit0t0_449 i | 66 => lit0t0_450 i | 67 => lit0t0_451 i | 68 => lit0t0_452 i | 69 => lit0t0_453 i | 70 => lit0t0_454 i | 71 => lit0t0_455 i
  | 72 => lit0t0_456 i | 73 => lit0t0_457 i | 74 => lit0t0_458 i | 75 => lit0t0_459 i | 76 => lit0t0_460 i | 77 => lit0t0_461 i | 78 => lit0t0_462 i | 79 => lit0t0_463 i
  | 80 => lit0t0_464 i | 81 => lit0t0_465 i | 82 => lit0t0_466 i | 83 => lit0t0_467 i | 84 => lit0t0_468 i | 85 => lit0t0_469 i | 86 => lit0t0_470 i | 87 => lit0t0_471 i
  | 88 => lit0t0_472 i | 89 => lit0t0_473 i | 90 => lit0t0_474 i | 91 => lit0t0_475 i | 92 => lit0t0_476 i | 93 => lit0t0_477 i | 94 => lit0t0_478 i | 95 => lit0t0_479 i
  | 96 => lit0t0_480 i | 97 => lit0t0_481 i | 98 => lit0t0_482 i | 99 => lit0t0_483 i | 100 => lit0t0_484 i | 101 => lit0t0_485 i | 102 => lit0t0_486 i | 103 => lit0t0_487 i
  | 104 => lit0t0_488 i | 105 => lit0t0_489 i | 106 => lit0t0_490 i | 107 => lit0t0_491 i | 108 => lit0t0_492 i | 109 => lit0t0_493 i | 110 => lit0t0_494 i | 111 => lit0t0_495 i
  | 112 => lit0t0_496 i | 113 => lit0t0_497 i | 114 => lit0t0_498 i | 115 => lit0t0_499 i | 116 => lit0t0_500 i | 117 => lit0t0_501 i | 118 => lit0t0_502 i | 119 => lit0t0_503 i
  | 120 => lit0t0_504 i | 121 => lit0t0_505 i | 122 => lit0t0_506 i | 123 => lit0t0_507 i | 124 => lit0t0_508 i | 125 => lit0t0_509 i | 126 => lit0t0_510 i | 127 => lit0t0_511 i
  | _ => 0#16

/-- Quarter 3 of the table, half row by half row. -/
theorem quarter3 (i : Nat) : lit0t1_3 i = half (384 + i / 128 % 128) i :=
  (show lit0t1_3 i = arms3 (i / 128 % 128) i by sl_kernel_rfl).trans
    (eq_of_lists (fun q => arms3 q i) (fun q => half (384 + q) i) (by sl_kernel_rfl) _ (Nat.mod_lt _ (by decide)))

/-- The left-group half row over its first 128 indices. -/
theorem left_at : (List.range 128).map lit0t0_0 = (List.range 128).map fun r => cond (Nat.blt r 64) 0x3C80#16 0#16 := by
  sl_kernel_rfl

/-- The right-group half row over its first 128 indices. -/
theorem right_at : (List.range 128).map lit0t0_128 = (List.range 128).map fun r => cond (Nat.blt r 64) 0#16 0x3C80#16 := by
  sl_kernel_rfl

/-- The empty half row over its first 128 indices. -/
theorem empty_at : (List.range 128).map lit0t0_1 = (List.range 128).map fun _ => 0#16 := by
  sl_kernel_rfl

/-- A half row reads its index modulo 128. -/
theorem half_mod (n i : Nat) : half n i = half n (i % 128) := by
  have h0 : lit0t0_0 i = lit0t0_0 (i % 128) := by unfold lit0t0_0; rw [Nat.mod_mod]
  have h1 : lit0t0_1 i = lit0t0_1 (i % 128) := by unfold lit0t0_1; rw [Nat.mod_mod]
  have h2 : lit0t0_128 i = lit0t0_128 (i % 128) := by unfold lit0t0_128; rw [Nat.mod_mod]
  unfold half
  rw [h0, h1, h2]

/-- A half row at an index below 128: `1/64` in its group's 64 columns, zero elsewhere. -/
theorem half_at (n r : Nat) (hr : r < 128) :
    half n r = if n / 2 / 64 = 2 * (n % 2) + r / 64 then 0x3C80#16 else 0#16 := by
  unfold half
  rw [eq_of_lists lit0t0_0 _ left_at r hr, eq_of_lists lit0t0_128 _ right_at r hr, eq_of_lists lit0t0_1 _ empty_at r hr]
  have hb : r / 64 = 0 ∧ Nat.blt r 64 = true ∨ r / 64 = 1 ∧ Nat.blt r 64 = false := by
    rcases Nat.lt_or_ge r 64 with h | h
    · exact .inl ⟨by omega, by simpa using h⟩
    · exact .inr ⟨by omega, Bool.eq_false_iff.mpr fun hh => absurd (Nat.le_of_ble_eq_true hh) (by omega)⟩
  by_cases e0 : n / 2 / 64 = 2 * (n % 2)
  · rw [show Nat.beq (n / 2 / 64) (2 * (n % 2)) = true by rw [Nat.beq_eq]; exact e0]
    rcases hb with ⟨h, hb⟩ | ⟨h, hb⟩ <;> rw [h, hb] <;> simp [e0]
  · rw [show Nat.beq (n / 2 / 64) (2 * (n % 2)) = false from Bool.eq_false_iff.mpr (by rw [ne_eq, Nat.beq_eq]; exact e0)]
    by_cases e1 : n / 2 / 64 = 2 * (n % 2) + 1
    · rw [show Nat.beq (n / 2 / 64) (2 * (n % 2) + 1) = true by rw [Nat.beq_eq]; exact e1]
      rcases hb with ⟨h, hb⟩ | ⟨h, hb⟩ <;> rw [h, hb] <;> simp [e1]
    · rw [show Nat.beq (n / 2 / 64) (2 * (n % 2) + 1) = false from Bool.eq_false_iff.mpr (by rw [ne_eq, Nat.beq_eq]; exact e1)]
      rcases hb with ⟨h, hb⟩ | ⟨h, hb⟩ <;> rw [h] <;> simp [e0, e1]

/-- The printed table at row `k`, column `j`: `1/64` where both lie in the same group of 64, and zero elsewhere. -/
theorem table_at (k j : Nat) (hk : k < 256) (hj : j < 256) :
    lit0t (k * 256 + j) = if k / 64 = j / 64 then 0x3C80#16 else 0#16 := by
  have hi : k * 256 + j < 65536 := by omega
  have h : lit0t (k * 256 + j) = half ((k * 256 + j) / 128) (k * 256 + j) := by
    have hq : (k * 256 + j) / 16384 = 0 ∨ (k * 256 + j) / 16384 = 1 ∨ (k * 256 + j) / 16384 = 2 ∨
        (k * 256 + j) / 16384 = 3 := by omega
    unfold lit0t
    generalize k * 256 + j = i at *
    rcases hq with h | h | h | h <;> rw [h]
    · exact (quarter0 i).trans (by congr 1; omega)
    · exact (quarter1 i).trans (by congr 1; omega)
    · exact (quarter2 i).trans (by congr 1; omega)
    · exact (quarter3 i).trans (by congr 1; omega)
  rw [h, half_mod, half_at _ _ (Nat.mod_lt _ (by decide))]
  have e1 : (k * 256 + j) / 128 = 2 * k + j / 128 := by omega
  have e2 : (k * 256 + j) % 128 = j % 128 := by omega
  have e3 : (2 * k + j / 128) / 2 = k := by omega
  have e4 : (2 * k + j / 128) % 2 = j / 128 := by omega
  rw [e1, e2, e3, e4, show 2 * (j / 128) + j % 128 / 64 = j / 64 by omega]

end Cert.OutFinal.Bd

end
-- ==== Proof.Rows.lean ====
module

public import Idealize.ShloMosaic.PureOps.Ideal
public import Idealize.ShloMosaic.Lib.Pointwise
public import Idealize.ShloMosaic.Lib.Pipeline.ValueKit
public import Idealize.ShloMosaic.Lib.ValueIdx

@[expose] public section

noncomputable section

/-! The layer's arithmetic on one token's row, over the extended reals: what a tile's row and the reference's row both are. -/

namespace Cert.Rows

open Idealize.ShloMosaic

/-- `x · 1 / (1 + exp (−x))`. -/
def silu (x : EReal) : EReal := x * Ideal.div 1 (1 + Ideal.exp (-x))

/-- The constant added under each root, `1e-6` as stored. -/
def eps : EReal := Ideal.ofBits .f32 897988541#32

/-- A scan lane normalised by the mean square of the 64 lanes of its head, times the head's weight. -/
def headNorm (o : Fin 256 → EReal) (w : Fin 64 → EReal) (l : Fin 256) : EReal :=
  o l * Ideal.rsqrt (Ideal.div (∑ x : Fin 64, o ⟨l / 64 * 64 + x, by omega⟩ * o ⟨l / 64 * 64 + x, by omega⟩)
      (Ideal.ofBits .f32 1115684864#32) + eps) * w ⟨l % 64, by omega⟩

/-- The gated activations of a row: attention lanes, then the two scans' lanes, each normalised per head. -/
def act (a : Fin 512 → EReal) (o : Fin 512 → EReal) (g : Fin 1024 → EReal) (w₁ w₂ : Fin 64 → EReal) (k : Fin 1024) : EReal :=
  (if h : (k : ℕ) < 512 then a ⟨k, h⟩
   else if h : (k : ℕ) - 512 < 256 then headNorm (fun l => o ⟨l, by omega⟩) w₁ ⟨k - 512, h⟩
   else headNorm (fun l => o ⟨256 + l, by omega⟩) w₂ ⟨k - 512 - 256, by omega⟩) * silu (g k)

/-- The residual row: the input plus the gate times the output projection of the activations. -/
def mix (x gt : Fin 1024 → EReal) (z : Fin 1024 → EReal) (W : Fin 1024 → Fin 1024 → EReal) (j : Fin 1024) : EReal :=
  x j + gt j * ∑ k : Fin 1024, z k * W k j

/-- A row normalised by its mean square over all 1024 lanes, times a weight. -/
def norm (x w : Fin 1024 → EReal) (j : Fin 1024) : EReal :=
  x j * Ideal.rsqrt (Ideal.div (∑ k : Fin 1024, x k * x k) (Ideal.ofBits .f32 1149239296#32) + eps) * w j

/-- The block-diagonal matrix of averages: `1/64` within a head, zero across. -/
def avg (k l : Fin 256) : EReal :=
  if (k : ℕ) / 64 = l / 64 then Ideal.ofBits .bf16 0x3C80#16 else 0

theorem ofBits_64 : Ideal.ofBits .f32 1115684864#32 = ((64 : ℝ) : EReal) := by
  simp [Ideal.ofBits, Ideal.ieee, -EReal.coe_mul]; norm_num

theorem ofBits_inv64 : Ideal.ofBits .bf16 0x3C80#16 = ((1 / 64 : ℝ) : EReal) := by
  simp [Ideal.ofBits, Ideal.ieee, -EReal.coe_mul]; norm_num

/-- A sum over 256 lanes, head by head. -/
theorem sum_heads (F : Fin 256 → EReal) :
    ∑ k, F k = ∑ h : Fin 4, ∑ x : Fin 64, F ⟨h * 64 + x, by omega⟩ := by
  rw [← Fintype.sum_prod_type' (f := fun (h : Fin 4) (x : Fin 64) => F ⟨h * 64 + x, by omega⟩)]
  refine (Fintype.sum_equiv (finProdFinEquiv (m := 4) (n := 64)) _ _ fun p => ?_).symm
  congr 1
  ext
  simp [finProdFinEquiv]
  omega

/-- Multiplying by the matrix of averages picks out the lane's own head. -/
theorem sum_avg (F : Fin 256 → EReal) (l : Fin 256) :
    ∑ k, F k * avg k l = ∑ x : Fin 64, F ⟨l / 64 * 64 + x, by omega⟩ * ((1 / 64 : ℝ) : EReal) := by
  rw [sum_heads, Finset.sum_eq_single (⟨(l : ℕ) / 64, by omega⟩ : Fin 4)]
  · refine Finset.sum_congr rfl fun x _ => ?_
    rw [avg, if_pos (by show ((l : ℕ) / 64 * 64 + x) / 64 = l / 64; omega), ofBits_inv64]
  · intro h _ hne
    refine Finset.sum_eq_zero fun x _ => ?_
    have hne' : (h : ℕ) ≠ l / 64 := fun e => hne (Fin.ext e)
    rw [avg, if_neg (by show ¬((h : ℕ) * 64 + x) / 64 = l / 64; omega), mul_zero]
  · intro h
    exact absurd (Finset.mem_univ _) h

/-- A finite sum of reals, as an extended real. -/
theorem coe_sum64 (f : Fin 64 → ℝ) : ((∑ x, f x : ℝ) : EReal) = ∑ x, (f x : EReal) :=
  map_sum (⟨⟨Real.toEReal, EReal.coe_zero⟩, EReal.coe_add⟩ : ℝ →+ EReal) f Finset.univ

/-- With finite lanes, the high part and the low part of the squares, each averaged by the matrix, add up to the
    head's mean square: the low part is zero. -/
theorem split_mean (o : Fin 256 → EReal) (ho : ∀ k, o k ≠ ⊤ ∧ o k ≠ ⊥) (l : Fin 256) :
    ∑ k, o k * o k * avg k l + ∑ k, (o k * o k - o k * o k) * avg k l
      = Ideal.div (∑ x : Fin 64, o ⟨l / 64 * 64 + x, by omega⟩ * o ⟨l / 64 * 64 + x, by omega⟩)
          (Ideal.ofBits .f32 1115684864#32) := by
  obtain ⟨a, rfl⟩ : ∃ a : Fin 256 → ℝ, o = fun k => (a k : EReal) :=
    ⟨fun k => (o k).toReal, funext fun k => (EReal.coe_toReal (ho k).1 (ho k).2).symm⟩
  rw [sum_avg (fun k => (a k : EReal) * a k), sum_avg (fun k => (a k : EReal) * a k - (a k : EReal) * a k), ofBits_64,
    Ideal.div_coe (by norm_num)]
  simp only [← EReal.coe_mul, ← EReal.coe_sub, ← coe_sum64, ← EReal.coe_add]
  congr 1
  simp [Finset.sum_mul]

/-- The kernel's head normalisation is the reference's, with finite lanes. -/
theorem headNorm_split (o : Fin 256 → EReal) (ho : ∀ k, o k ≠ ⊤ ∧ o k ≠ ⊥) (w : Fin 64 → EReal) (l : Fin 256) :
    o l * Ideal.rsqrt (∑ k, o k * o k * avg k l + ∑ k, (o k * o k - o k * o k) * avg k l + Ideal.ofBits .f32 897988541#32)
        * w ⟨l % 64, by omega⟩ = headNorm o w l := by
  rw [split_mean o ho]
  rfl

end Cert.Rows

end
-- ==== Proof.PayFinal.lean ====
module

public import proofs.«01_k».proof.Proof.Gen.KernelIdeal.Skeleton
public import proofs.«01_k».proof.Proof.Rows

@[expose] public section

set_option maxRecDepth 16384

noncomputable section

namespace Cert.OutFinal.Pay

open Cert.KernelIdeal Cert.KernelIdeal.Gen Idealize.ShloMosaic Idealize.ShloMosaic.TcCoe Idealize.SL.Sem

variable (x0 : Vec Ideal S1x1024x1024 .f32) (x1 x2 x3 : Vec Ideal S1x1024x512 .bf16) (x4 : Vec Ideal S1x1024x1024 .bf16)
  (g : Vec Ideal S1x3072 .f32) (x6 x7 : Vec Ideal S1x256 .f32) (x8 : Vec Ideal S256x256 .bf16)
  (x9 : Vec Ideal S1x1024x1024 .bf16) (x10 : Vec Ideal S1x1024 .f32) (w₁ w₂ : Fin 64 → EReal)

/-- The tile's first scan lanes, normalised per head. -/
theorem gla_at (h6 : ∀ l : Fin 256, x6 (ix2 0 l) = w₁ ⟨l % 64, by omega⟩) (h8 : ∀ k l, x8 (ix2 k l) = Rows.avg k l)
    (r : Fin 1024) (hf : ∀ l, x2 (ix3 0 r l) + x3 (ix3 0 r l) ≠ (⊤ : EReal) ∧ x2 (ix3 0 r l) + x3 (ix3 0 r l) ≠ (⊥ : EReal))
    (c : Fin 256) : k0_pay5 (F := Ideal) x8 x2 x3 x6 (ix2 r c)
      = Rows.headNorm (fun l => x2 (ix3 0 r ⟨l, by omega⟩) + x3 (ix3 0 r ⟨l, by omega⟩)) w₁ c := by
  pointwise [k0_pay5, k0_pay4]
  simp only [h8, h6]
  exact Rows.headNorm_split (fun l => x2 (ix3 0 r ⟨l, by omega⟩) + x3 (ix3 0 r ⟨l, by omega⟩)) (fun l => hf _) w₁ c

/-- The loads of the tile, read at an index. -/
theorem load_at (r : Fin 1024) (c : Fin 1024) : k0_pay2 (F := Ideal) x0 (ix2 r c) = x0 (ix3 0 r c) := by
  pointwise [k0_pay2]

theorem gate_at (c : Fin 1024) : k0_pay3 (F := Ideal) g (ix2 0 c) = g (ix2 0 ⟨2048 + c, by omega⟩) := by
  pointwise [k0_pay3]

theorem weight_at (c : Fin 256) : k0_pay7 (F := Ideal) x7 (ix2 0 c) = x7 (ix2 0 c) := by
  pointwise [k0_pay7]

theorem scan_at (r : Fin 1024) (c : Fin 256) : k0_pay6 (F := Ideal) x2 x3 (ix2 r c)
    = x2 (ix3 0 r ⟨256 + c, by omega⟩) + x3 (ix3 0 r ⟨256 + c, by omega⟩) := by
  pointwise [k0_pay6, k0_pay4]

theorem hi_at (r : Fin 1024) (c : Fin 256) : k0_pay9 (F := Ideal) x2 x3 (ix2 r c)
    = k0_pay6 (F := Ideal) x2 x3 (ix2 r c) * k0_pay6 (F := Ideal) x2 x3 (ix2 r c) := by
  pointwise [k0_pay9, k0_pay8]

theorem lo_at (r : Fin 1024) (c : Fin 256) : k0_pay10 (F := Ideal) x2 x3 (ix2 r c)
    = k0_pay6 (F := Ideal) x2 x3 (ix2 r c) * k0_pay6 (F := Ideal) x2 x3 (ix2 r c)
      - k0_pay6 (F := Ideal) x2 x3 (ix2 r c) * k0_pay6 (F := Ideal) x2 x3 (ix2 r c) := by
  pointwise [k0_pay10, k0_pay9, k0_pay8]

/-- The residual rows over whatever the first half of the tile's arithmetic left. -/
theorem mix_of (v1 : FVec Ideal S1024x1024 .f32) (v5 : FVec Ideal S1x1024 .f32) (v30 v31 : FVec Ideal S1024x256 .f32)
    (v33 : FVec Ideal S1x256 .f32) (v35 v38 : FVec Ideal S1024x256 .bf16) (r c : Fin 1024) :
    k0_pay11 (F := Ideal) v1 v5 x8 v30 v31 v33 v35 v38 x1 x4 x9 (ix2 r c)
      = Rows.mix (fun k => v1 (ix2 r k)) (fun k => v5 (ix2 0 k)) (fun k =>
          (if h : (k : ℕ) < 512 then x1 (ix3 0 r ⟨k, h⟩)
           else if h : (k : ℕ) - 512 < 256 then v30 (ix2 r ⟨k - 512, h⟩)
           else v31 (ix2 r ⟨k - 512 - 256, by omega⟩) * Ideal.rsqrt
              (∑ j, v35 (ix2 r j) * x8 (ix2 j ⟨k - 512 - 256, by omega⟩) + ∑ j, v38 (ix2 r j) * x8 (ix2 j ⟨k - 512 - 256, by omega⟩)
                + Ideal.ofBits .f32 897988541#32) * v33 (ix2 0 ⟨k - 512 - 256, by omega⟩)) * Rows.silu (x4 (ix3 0 r k)))
          (fun k j => x9 (ix3 0 k j)) c := by
  pointwise [k0_pay11]
  simp only [zero_sub]
  rfl

/-- The tile's residual rows. -/
theorem mix_at (h6 : ∀ l : Fin 256, x6 (ix2 0 l) = w₁ ⟨l % 64, by omega⟩)
    (h7 : ∀ l : Fin 256, x7 (ix2 0 l) = w₂ ⟨l % 64, by omega⟩) (h8 : ∀ k l, x8 (ix2 k l) = Rows.avg k l)
    (r : Fin 1024) (hf : ∀ l, x2 (ix3 0 r l) + x3 (ix3 0 r l) ≠ (⊤ : EReal) ∧ x2 (ix3 0 r l) + x3 (ix3 0 r l) ≠ (⊥ : EReal))
    (c : Fin 1024) :
    k0_pay11 (F := Ideal) (k0_pay2 (F := Ideal) x0) (k0_pay3 (F := Ideal) g) x8 (k0_pay5 (F := Ideal) x8 x2 x3 x6) (k0_pay6 (F := Ideal) x2 x3) (k0_pay7 (F := Ideal) x7)
        (k0_pay9 (F := Ideal) x2 x3) (k0_pay10 (F := Ideal) x2 x3) x1 x4 x9 (ix2 r c)
      = Rows.mix (fun k => x0 (ix3 0 r k)) (fun k => g (ix2 0 ⟨2048 + k, by omega⟩))
          (Rows.act (fun l => x1 (ix3 0 r l)) (fun l => x2 (ix3 0 r l) + x3 (ix3 0 r l)) (fun l => x4 (ix3 0 r l)) w₁ w₂)
          (fun k j => x9 (ix3 0 k j)) c := by
  rw [mix_of]
  simp only [load_at, gate_at, gla_at x2 x3 x6 x8 w₁ h6 h8 r hf, hi_at, lo_at, scan_at, weight_at, h8, h7]
  congr 1
  funext k
  unfold Rows.act
  congr 1
  split
  · rfl
  · split
    · rfl
    · exact Rows.headNorm_split (fun l => x2 (ix3 0 r ⟨256 + l, by omega⟩) + x3 (ix3 0 r ⟨256 + l, by omega⟩))
        (fun l => hf ⟨256 + l, by omega⟩) w₂ ⟨k - 512 - 256, by omega⟩

/-- What the tile stores. -/
theorem result_at (h6 : ∀ l : Fin 256, x6 (ix2 0 l) = w₁ ⟨l % 64, by omega⟩)
    (h7 : ∀ l : Fin 256, x7 (ix2 0 l) = w₂ ⟨l % 64, by omega⟩) (h8 : ∀ k l, x8 (ix2 k l) = Rows.avg k l)
    (r : Fin 1024) (hf : ∀ l, x2 (ix3 0 r l) + x3 (ix3 0 r l) ≠ (⊤ : EReal) ∧ x2 (ix3 0 r l) + x3 (ix3 0 r l) ≠ (⊥ : EReal))
    (c : Fin 1024) :
    k0_pay1 (F := Ideal)
        (k0_pay11 (F := Ideal) (k0_pay2 (F := Ideal) x0) (k0_pay3 (F := Ideal) g) x8 (k0_pay5 (F := Ideal) x8 x2 x3 x6) (k0_pay6 (F := Ideal) x2 x3) (k0_pay7 (F := Ideal) x7)
          (k0_pay9 (F := Ideal) x2 x3) (k0_pay10 (F := Ideal) x2 x3) x1 x4 x9)
        (k0_pay12 (F := Ideal) (k0_pay2 (F := Ideal) x0) (k0_pay3 (F := Ideal) g) x8 (k0_pay5 (F := Ideal) x8 x2 x3 x6) (k0_pay6 (F := Ideal) x2 x3) (k0_pay7 (F := Ideal) x7)
          (k0_pay9 (F := Ideal) x2 x3) (k0_pay10 (F := Ideal) x2 x3) x1 x4 x9) x10 (ix3 0 r c)
      = Rows.norm (Rows.mix (fun k => x0 (ix3 0 r k)) (fun k => g (ix2 0 ⟨2048 + k, by omega⟩))
          (Rows.act (fun l => x1 (ix3 0 r l)) (fun l => x2 (ix3 0 r l) + x3 (ix3 0 r l)) (fun l => x4 (ix3 0 r l)) w₁ w₂)
          (fun k j => x9 (ix3 0 k j))) (fun k => x10 (ix2 0 k)) c := by
  pointwise [k0_pay1, k0_pay12]
  simp only [mix_at x0 x1 x2 x3 x4 g x6 x7 x8 x9 w₁ w₂ h6 h7 h8 r hf]
  rfl

end Cert.OutFinal.Pay

end
-- ==== Proof.RefFinal.lean ====
module

public import proofs.«01_k».proof.Proof.Gen.ReferenceIdeal.Read
public import proofs.«01_k».proof.Proof.Rows

@[expose] public section

set_option maxRecDepth 16384

noncomputable section

namespace Cert.OutFinal.Ref

open Idealize.ShloMosaic Idealize.ShloMosaic.TcCoe Idealize.SL.Sem
open Cert.ReferenceIdeal Cert.ReferenceIdeal.Read

variable (x0 : FVec Ideal S8x4352x1024 .f32) (x1 : FVec Ideal S8x4096x512 .bf16) (x2 x3 : FVec Ideal S8x4352x512 .bf16)
  (x4 : FVec Ideal S8x4352x1024 .bf16) (x5 : FVec Ideal S2x16x3072 .f32) (x6 x7 : FVec Ideal S2x64 .f32)
  (x8 : FVec Ideal S2x1024x1024 .f32) (x9 : FVec Ideal S1024 .f32)

/-- The gated attention lanes. -/
theorem na_at (b : Fin 8) (t : Fin 4096) (c : Fin 512) : val_main_v14 (F := Ideal) x1 x4 (ix3 b t c)
    = x1 (ix3 b t c) * Rows.silu (x4 (ix3 b ⟨256 + t, by omega⟩ ⟨c, by omega⟩)) := by
  pointwise [val_main_v14, val_main_v13, val_main_v11, val_main_v12, val_main_v7, val_main_v6, val_main_call0_v0, val_main_call0_v1, val_main_call0_v2, val_main_call0_v3, val_main_call0_v4, val_main_call0_v5, val_main_call0_cst, val_main_call0_cst_0]
  rfl

/-- The first scan's lanes, normalised per head and gated. -/
theorem gla_at (b : Fin 8) (t : Fin 4096) (c : Fin 256) : val_main_v35 (F := Ideal) x2 x3 x4 x6 (ix3 b t c)
    = Rows.headNorm (fun l => x2 (ix3 b ⟨256 + t, by omega⟩ ⟨l, by omega⟩) + x3 (ix3 b ⟨256 + t, by omega⟩ ⟨l, by omega⟩))
        (fun d => x6 (ix2 1 d)) c * Rows.silu (x4 (ix3 b ⟨256 + t, by omega⟩ ⟨512 + c, by omega⟩)) := by
  pointwise [val_main_v35, val_main_v34, val_main_call1_v0, val_main_call1_v1, val_main_call1_v2, val_main_call1_v3, val_main_call1_v4, val_main_call1_v5, val_main_call1_cst, val_main_call1_cst_0, val_main_v18, val_main_v7, val_main_v6, val_main_v33, val_main_v32, val_main_v31, val_main_v30, val_main_v29, val_main_v28, val_main_v27, val_main_v26, val_main_v25, val_main_cst_1, val_main_v24, val_main_v23, val_main_cst_0, val_main_v22, val_main_v21, val_main_cst, val_main_v20, val_main_v19, val_main_v17, val_main_v16, val_main_v15, val_main_v5, val_main_v4, val_main_v3, val_main_v2, val_main_v1]
  rfl

/-- The second scan's lanes, normalised per head and gated. -/
theorem hgrn_at (b : Fin 8) (t : Fin 4096) (c : Fin 256) : val_main_v56 (F := Ideal) x2 x3 x4 x7 (ix3 b t c)
    = Rows.headNorm (fun l => x2 (ix3 b ⟨256 + t, by omega⟩ ⟨256 + l, by omega⟩) + x3 (ix3 b ⟨256 + t, by omega⟩ ⟨256 + l, by omega⟩))
        (fun d => x7 (ix2 1 d)) c * Rows.silu (x4 (ix3 b ⟨256 + t, by omega⟩ ⟨768 + c, by omega⟩)) := by
  pointwise [val_main_v56, val_main_v55, val_main_call2_v0, val_main_call2_v1, val_main_call2_v2, val_main_call2_v3, val_main_call2_v4, val_main_call2_v5, val_main_call2_cst, val_main_call2_cst_0, val_main_v39, val_main_v7, val_main_v6, val_main_v54, val_main_v53, val_main_v52, val_main_v51, val_main_v50, val_main_v49, val_main_v48, val_main_v47, val_main_v46, val_main_cst_4, val_main_v45, val_main_v44, val_main_cst_3, val_main_v43, val_main_v42, val_main_cst_2, val_main_v41, val_main_v40, val_main_v38, val_main_v37, val_main_v36, val_main_v5, val_main_v4, val_main_v3, val_main_v2, val_main_v1]
  rfl

/-- The joined activations of one token. -/
theorem act_at (b : Fin 8) (t : Fin 4096) (k : Fin 1024) : val_main_v57 (F := Ideal) x1 x2 x3 x4 x6 x7 (ix3 b t k)
    = Rows.act (fun l => x1 (ix3 b t l))
        (fun l => x2 (ix3 b ⟨256 + t, by omega⟩ l) + x3 (ix3 b ⟨256 + t, by omega⟩ l))
        (fun l => x4 (ix3 b ⟨256 + t, by omega⟩ l)) (fun d => x6 (ix2 1 d)) (fun d => x7 (ix2 1 d)) k := by
  pointwise [val_main_v57]
  unfold Rows.act
  split
  · exact na_at x1 x4 b t _
  · split
    · rw [gla_at x2 x3 x4 x6 b t]
      congr 3
      blk_ext
    · rw [hgrn_at x2 x3 x4 x7 b t]
      congr 3
      blk_ext

/-- The residual row of one token. -/
theorem mix_at (b : Fin 8) (t : Fin 4096) (c : Fin 1024) : val_main_v63 (F := Ideal) x0 x1 x2 x3 x4 x5 x6 x7 x8 (ix3 b t c)
    = Rows.mix (fun k => x0 (ix3 b ⟨256 + t, by omega⟩ k)) (fun k => x5 (ix3 1 ⟨b, by omega⟩ ⟨2048 + k, by omega⟩))
        (Rows.act (fun l => x1 (ix3 b t l))
          (fun l => x2 (ix3 b ⟨256 + t, by omega⟩ l) + x3 (ix3 b ⟨256 + t, by omega⟩ l))
          (fun l => x4 (ix3 b ⟨256 + t, by omega⟩ l)) (fun d => x6 (ix2 1 d)) (fun d => x7 (ix2 1 d)))
        (fun k j => x8 (ix3 1 k j)) c := by
  pointwise [val_main_v63, val_main_v62, val_main_v61, val_main_v60, val_main_v59, val_main_v58, val_main_v10, val_main_v9, val_main_v8, val_main_v0]
  simp only [act_at]
  rfl

/-- The reference's result, token by token. -/
theorem result_at (b : Fin 8) (t : Fin 4096) (c : Fin 1024) : val_main_v76 (F := Ideal) x0 x1 x2 x3 x4 x5 x6 x7 x8 x9 (ix3 b t c)
    = Rows.norm (Rows.mix (fun k => x0 (ix3 b ⟨256 + t, by omega⟩ k)) (fun k => x5 (ix3 1 ⟨b, by omega⟩ ⟨2048 + k, by omega⟩))
        (Rows.act (fun l => x1 (ix3 b t l))
          (fun l => x2 (ix3 b ⟨256 + t, by omega⟩ l) + x3 (ix3 b ⟨256 + t, by omega⟩ l))
          (fun l => x4 (ix3 b ⟨256 + t, by omega⟩ l)) (fun d => x6 (ix2 1 d)) (fun d => x7 (ix2 1 d)))
        (fun k j => x8 (ix3 1 k j))) (fun k => x9 (ix1 k)) c := by
  pointwise [val_main_v76, val_main_v75, val_main_v74, val_main_v73, val_main_v72, val_main_v71, val_main_v70, val_main_v69, val_main_cst_7, val_main_v68, val_main_v67, val_main_cst_6, val_main_v66, val_main_v65, val_main_cst_5, val_main_v64]
  simp only [mix_at]
  rfl

end Cert.OutFinal.Ref

end
-- ==== Proof.FinalValue.lean ====
module

public import proofs.«01_k».proof.Pre_scans_finite
public import proofs.«01_k».proof.Proof.Gen.KernelIdeal.Value
public import proofs.«01_k».proof.Proof.BdTable
public import proofs.«01_k».proof.Proof.PayFinal
public import proofs.«01_k».proof.Proof.RefFinal

@[expose] public section

set_option maxRecDepth 16384

noncomputable section

namespace Cert.OutFinal

open Cert.KernelIdeal Cert.KernelIdeal.Gen Idealize.ShloMosaic Idealize.ShloMosaic.TcCoe Idealize.SL.Sem
open Idealize.ShloMosaic.Pipeline (Dat)

/-! The last output projection as one array: every block of the call's grid, read from the arrays the
    call is given, is the same rows of the plain formula. -/

/-- The side conditions of the precondition's printed function. -/
theorem scans_facts : Cert.Pre_scans_finite.Facts where
  bitsLt_bf16_f32 := by decide
  bcast_S_S8x4352x512 := by decide

/-- The word `0x7F800000` is plus infinity. -/
theorem ofBits_inf : (FloatOps.ofBits .f32 0x7F800000#32 : Ideal .f32) = (⊤ : EReal) := by
  simp [FloatOps.ofBits, Ideal.ofBits, Ideal.ieee]

/-- What the precondition says of one entry: the sum of the two scans is a real number there. -/
theorem scans_real (h : Cert.Pre_scans_finite.Facts) (x0 : FVec Ideal Cert.Pre_scans_finite.S8x4352x1024 .f32) (x1 : FVec Ideal Cert.Pre_scans_finite.S8x4096x512 .bf16)
    (x2 x3 : FVec Ideal Cert.Pre_scans_finite.S8x4352x512 .bf16) (x4 : FVec Ideal Cert.Pre_scans_finite.S8x4352x1024 .bf16)
    (x5 : FVec Ideal Cert.Pre_scans_finite.S2x16x3072 .f32) (x6 x7 : FVec Ideal Cert.Pre_scans_finite.S2x64 .f32)
    (x8 : FVec Ideal Cert.Pre_scans_finite.S2x1024x1024 .f32) (x9 : FVec Ideal Cert.Pre_scans_finite.S1024 .f32)
    (hp : Cert.Pre_scans_finite.fn (F := Ideal) x0 x1 x2 x3 x4 x5 x6 x7 x8 x9 = fun _ => 1#1)
    (i : Cert.Pre_scans_finite.S8x4352x512.Idx) :
    (x2 i : EReal) + x3 i ≠ ⊤ ∧ (x2 i : EReal) + x3 i ≠ ⊥ := by
  have h1 := congrFun hp i
  have h2 : Ideal.cmp .olt (max ((x2 i : EReal) + x3 i) (-((x2 i : EReal) + x3 i)))
      (FloatOps.ofBits .f32 0x7F800000#32 : Ideal .f32) = 1#1 := h1
  rw [ofBits_inf] at h2
  have h3 : max ((x2 i : EReal) + x3 i) (-((x2 i : EReal) + x3 i)) < ⊤ := by
    by_contra hn
    have h4 : Ideal.cmp .olt (max ((x2 i : EReal) + x3 i) (-((x2 i : EReal) + x3 i))) ⊤
        = BitVec.ofBool (decide (max ((x2 i : EReal) + x3 i) (-((x2 i : EReal) + x3 i)) < ⊤)) := rfl
    rw [h4, decide_eq_false hn] at h2
    exact absurd h2 (by decide)
  generalize (x2 i : EReal) + x3 i = s at h3
  constructor
  · rintro rfl; simp at h3
  · rintro rfl; simp at h3

variable (m : (ℓ : Loc nD τ sig) → Buf (Elt Ideal) ℓ)

/-- The block index (for the four windows placed by element, the offset) of each window at each point. -/
theorem idx : ∀ t : Fin cfg0.N, win0_0.index t = ![t.val / 4, 256 + t.val % 4 * 1024, 0] ∧ win0_1.index t = ![t.val / 4, t.val % 4, 0]
    ∧ win0_2.index t = ![t.val / 4, 256 + t.val % 4 * 1024, 0] ∧ win0_3.index t = ![t.val / 4, 256 + t.val % 4 * 1024, 0]
    ∧ win0_4.index t = ![t.val / 4, 256 + t.val % 4 * 1024, 0] ∧ win0_5.index t = ![0, 0] ∧ win0_6.index t = ![0, 0]
    ∧ win0_7.index t = ![0, 0] ∧ win0_8.index t = ![0, 0] ∧ win0_9.index t = ![1, 0, 0] ∧ win0_10.index t = ![0, 0]
    ∧ win0_11.index t = ![t.val / 4, t.val % 4, 0] ∧ k0_off1 (grid0.coords t) = ![t.val / 4, 0] :=
  (by decide +kernel : ∀ t : Fin grid0.N, _)

/-- An entry of a block of the stream is the stream's entry of the same batch, 256 context rows further on. -/
theorem b0 (c : Dev nD) (t : Fin cfg0.N) (b : Fin 8) (s : Fin 4) (hb : b = t.val / 4) (hs : s = t.val % 4) (r k : Fin 1024) :
    iblk m c 0 t (ix3 0 r k) = m ((c : Thread nD τ).loc main_arg0) (ix3 b ⟨256 + (s * 1024 + r), by omega⟩ k) := by
  obtain ⟨i0, i1, i2, i3, i4, i5, i6, i7, i8, i9, i10, i11, o⟩ := idx t
  blk_point [iblk, V, i0]
  · refine (win0_0.rect_emb_val_off t (ix3 0 r k) 0).trans ?_; rw [i0]; simp [Pipeline.WinKind.off]; omega
  · refine (win0_0.rect_emb_val_off t (ix3 0 r k) 1).trans ?_; rw [i0]; simp [Pipeline.WinKind.off]; omega
  · refine (win0_0.rect_emb_val_off t (ix3 0 r k) 2).trans ?_; rw [i0]; simp [Pipeline.WinKind.off]

/-- An entry of a block of the neighbourhood attention's output. -/
theorem b1 (c : Dev nD) (t : Fin cfg0.N) (b : Fin 8) (s : Fin 4) (hb : b = t.val / 4) (hs : s = t.val % 4) (r : Fin 1024) (k : Fin 512) :
    iblk m c 1 t (ix3 0 r k) = m ((c : Thread nD τ).loc main_arg1) (ix3 b ⟨s * 1024 + r, by omega⟩ k) := by
  obtain ⟨i0, i1, i2, i3, i4, i5, i6, i7, i8, i9, i10, i11, o⟩ := idx t
  blk_point [iblk, V, i1]

/-- An entry of a block of the forward scan, 256 context rows further on. -/
theorem b2 (c : Dev nD) (t : Fin cfg0.N) (b : Fin 8) (s : Fin 4) (hb : b = t.val / 4) (hs : s = t.val % 4) (r : Fin 1024) (k : Fin 512) :
    iblk m c 2 t (ix3 0 r k) = m ((c : Thread nD τ).loc main_arg2) (ix3 b ⟨256 + (s * 1024 + r), by omega⟩ k) := by
  obtain ⟨i0, i1, i2, i3, i4, i5, i6, i7, i8, i9, i10, i11, o⟩ := idx t
  blk_point [iblk, V, i2]
  · refine (win0_2.rect_emb_val_off t (ix3 0 r k) 0).trans ?_; rw [i2]; simp [Pipeline.WinKind.off]; omega
  · refine (win0_2.rect_emb_val_off t (ix3 0 r k) 1).trans ?_; rw [i2]; simp [Pipeline.WinKind.off]; omega
  · refine (win0_2.rect_emb_val_off t (ix3 0 r k) 2).trans ?_; rw [i2]; simp [Pipeline.WinKind.off]

/-- An entry of a block of the backward scan, 256 context rows further on. -/
theorem b3 (c : Dev nD) (t : Fin cfg0.N) (b : Fin 8) (s : Fin 4) (hb : b = t.val / 4) (hs : s = t.val % 4) (r : Fin 1024) (k : Fin 512) :
    iblk m c 3 t (ix3 0 r k) = m ((c : Thread nD τ).loc main_arg3) (ix3 b ⟨256 + (s * 1024 + r), by omega⟩ k) := by
  obtain ⟨i0, i1, i2, i3, i4, i5, i6, i7, i8, i9, i10, i11, o⟩ := idx t
  blk_point [iblk, V, i3]
  · refine (win0_3.rect_emb_val_off t (ix3 0 r k) 0).trans ?_; rw [i3]; simp [Pipeline.WinKind.off]; omega
  · refine (win0_3.rect_emb_val_off t (ix3 0 r k) 1).trans ?_; rw [i3]; simp [Pipeline.WinKind.off]; omega
  · refine (win0_3.rect_emb_val_off t (ix3 0 r k) 2).trans ?_; rw [i3]; simp [Pipeline.WinKind.off]

/-- An entry of a block of the gates, 256 context rows further on. -/
theorem b4 (c : Dev nD) (t : Fin cfg0.N) (b : Fin 8) (s : Fin 4) (hb : b = t.val / 4) (hs : s = t.val % 4) (r k : Fin 1024) :
    iblk m c 4 t (ix3 0 r k) = m ((c : Thread nD τ).loc main_arg4) (ix3 b ⟨256 + (s * 1024 + r), by omega⟩ k) := by
  obtain ⟨i0, i1, i2, i3, i4, i5, i6, i7, i8, i9, i10, i11, o⟩ := idx t
  blk_point [iblk, V, i4]
  · refine (win0_4.rect_emb_val_off t (ix3 0 r k) 0).trans ?_; rw [i4]; simp [Pipeline.WinKind.off]; omega
  · refine (win0_4.rect_emb_val_off t (ix3 0 r k) 1).trans ?_; rw [i4]; simp [Pipeline.WinKind.off]; omega
  · refine (win0_4.rect_emb_val_off t (ix3 0 r k) 2).trans ?_; rw [i4]; simp [Pipeline.WinKind.off]

/-- The second layer's modulation rows, taken out of the two layers' array. -/
theorem mod_at (x : Vec Ideal S2x16x3072 .f32) (b : Fin 16) (k : Fin 3072) :
    shapeCast S16x3072 (extractStridedSlice S1x16x3072 ![1, 0, 0] x slices_S2x16x3072_S1x16x3072_1_0_0) shapeCasts_S1x16x3072_S16x3072 (ix2 b k)
      = x (ix3 1 b k) := by
  pointwise

/-- The row of the modulation table the call loads is the second layer's row of the batch element. -/
theorem b5 (c : Dev nD) (t : Fin cfg0.N) (k : Fin 3072) (b : Fin 8) (hb : b = t.val / 4) :
    (View.ld (iblk m c 5 t) (Rect.unit (k0_off1 (grid0.coords t)) ![1, 3072] (k0_off1_inb (grid0.coords t))) : Vec Ideal S1x3072 .f32) (ix2 0 k)
      = m ((c : Thread nD τ).loc main_arg5) (ix3 1 ⟨b, by omega⟩ k) := by
  obtain ⟨i0, i1, i2, i3, i4, i5, i6, i7, i8, i9, i10, i11, o⟩ := idx t
  have h1 : ∀ x : Vec Ideal S16x3072 .f32,
      (View.ld x (Rect.unit (s := S16x3072) (k0_off1 (grid0.coords t)) ![1, 3072] (k0_off1_inb (grid0.coords t))) : Vec Ideal S1x3072 .f32) (ix2 0 k)
        = x (ix2 ⟨b, by omega⟩ k) := by
    intro x
    refine congrArg x (funext fun a => Fin.ext ?_)
    refine (ValueKit.rect_emb_unit_val _ _ _ _ a).trans ?_
    rw [congrFun o a]
    fin_cases a
    · simp [ix2, hb]
    · simp [ix2]
  refine (h1 (iblk m c 5 t)).trans ?_
  have hE : (win0_5.blk t).view.emb (ix2 (⟨b, by omega⟩ : Fin 16) k) = ix2 (⟨b, by omega⟩ : Fin 16) k := by blk_ext [i5]
  have hc : iblk m c 5 t (ix2 (⟨b, by omega⟩ : Fin 16) k) = V m c main_v14 ((win0_5.blk t).view.emb (ix2 (⟨b, by omega⟩ : Fin 16) k)) := rfl
  rw [hc, hE]
  have hv : V m c main_v14 = shapeCast S16x3072
      (extractStridedSlice S1x16x3072 ![1, 0, 0] (m (c, Proc.tc.devRef main_arg5)) slices_S2x16x3072_S1x16x3072_1_0_0)
      shapeCasts_S1x16x3072_S16x3072 := by
    unfold V; after_results; rfl
  rw [hv, mod_at]

/-- The tiled weight of the gated linear attention repeats the second layer's 64 weights. -/
theorem b6 (c : Dev nD) (t : Fin cfg0.N) (k : Fin 256) : iblk m c 6 t (ix2 0 k) = m ((c : Thread nD τ).loc main_arg6) (ix2 1 ⟨k % 64, by omega⟩) := by
  obtain ⟨i0, i1, i2, i3, i4, i5, i6, i7, i8, i9, i10, i11, o⟩ := idx t
  blk_point [iblk, V, i6]

/-- The tiled weight of the gated recurrence repeats the second layer's 64 weights. -/
theorem b7 (c : Dev nD) (t : Fin cfg0.N) (k : Fin 256) : iblk m c 7 t (ix2 0 k) = m ((c : Thread nD τ).loc main_arg7) (ix2 1 ⟨k % 64, by omega⟩) := by
  obtain ⟨i0, i1, i2, i3, i4, i5, i6, i7, i8, i9, i10, i11, o⟩ := idx t
  blk_point [iblk, V, i7]

/-- The constant table's entry: one over 64 inside a head's square, zero outside. -/
theorem b8 (c : Dev nD) (t : Fin cfg0.N) (k l : Fin 256) : iblk m c 8 t (ix2 k l) = Rows.avg k l := by
  obtain ⟨i0, i1, i2, i3, i4, i5, i6, i7, i8, i9, i10, i11, o⟩ := idx t
  have h : iblk m c 8 t (ix2 k l) = (FloatOps.ofBits .bf16 (lit0t (k * 256 + l)) : Ideal .bf16) := by
    have hE : (win0_8.blk t).view.emb (ix2 k l) = ix2 k l := by blk_ext [i8]
    have hc : iblk m c 8 t (ix2 k l) = V m c main_cst ((win0_8.blk t).view.emb (ix2 k l)) := rfl
    rw [hc, hE]
    have hv : V m c main_cst = fun i => (FloatOps.ofBits .bf16 (lit0 (S256x256.rowMajor i)) : Ideal .bf16) := by
      unfold V; after_results; rfl
    rw [hv]
    have hr : ((S256x256.rowMajor (ix2 k l) : Fin _) : Nat) = k * 256 + l := by
      exact (Shape.rowMajor_val_two _).trans (by simp [ix2])
    have hl : ∀ n : Fin S256x256.numel, lit0 n = lit0t n := fun _ => rfl
    show (FloatOps.ofBits .bf16 (lit0 (S256x256.rowMajor (ix2 k l))) : Ideal .bf16) = _
    rw [hl, hr]
  rw [h, Bd.table_at k l k.isLt l.isLt]
  unfold Rows.avg
  split
  · rfl
  · simp [FloatOps.ofBits, Ideal.ofBits, Ideal.ieee]

/-- The output weights are the second layer's, entry for entry. -/
theorem b9 (c : Dev nD) (t : Fin cfg0.N) (r k : Fin 1024) : iblk m c 9 t (ix3 0 r k) = m ((c : Thread nD τ).loc main_arg8) (ix3 1 r k) := by
  obtain ⟨i0, i1, i2, i3, i4, i5, i6, i7, i8, i9, i10, i11, o⟩ := idx t
  blk_point [iblk, V, i9]

/-- The last normalisation's weights, entry for entry. -/
theorem b10 (c : Dev nD) (t : Fin cfg0.N) (k : Fin 1024) : iblk m c 10 t (ix2 0 k) = m ((c : Thread nD τ).loc main_arg9) (ix1 k) := by
  obtain ⟨i0, i1, i2, i3, i4, i5, i6, i7, i8, i9, i10, i11, o⟩ := idx t
  blk_point [iblk, V, i10]

/-- The call's output array, entry by entry: the reference's formula of the argument arrays, where the scan sums are real. -/
theorem final (c : Dev nD)
    (hf : ∀ i : S8x4352x512.Idx, (show EReal from m ((c : Thread nD τ).loc main_arg2) i) + (show EReal from m ((c : Thread nD τ).loc main_arg3) i) ≠ ⊤
      ∧ (show EReal from m ((c : Thread nD τ).loc main_arg2) i) + (show EReal from m ((c : Thread nD τ).loc main_arg3) i) ≠ ⊥) :
    (dats m 0 c).arrAt 11 cfg0.N
      = Cert.ReferenceIdeal.Read.val_main_v76 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]; unfold outsAt0; frame_out
  obtain ⟨y0, r, k, rfl⟩ : ∃ (y0 : Fin 1) (r k : Fin 1024), y = ix3 y0 r k := ⟨y 0, y 1, y 2, by funext a; fin_cases a <;> rfl⟩
  obtain rfl : y0 = 0 := Subsingleton.elim _ _
  obtain ⟨i0, i1, i2, i3, i4, i5, i6, i7, i8, i9, i10, i11, o⟩ := idx t
  have ht : t.val < 32 := t.isLt
  obtain ⟨b, hb⟩ : ∃ b : Fin 8, b.val = t.val / 4 := ⟨⟨t.val / 4, by omega⟩, rfl⟩
  obtain ⟨s, hs⟩ : ∃ s : Fin 4, s.val = t.val % 4 := ⟨⟨t.val % 4, by omega⟩, rfl⟩
  have hE : ((View.whole main_v16).slice (win0_11.rect t)).emb (ix3 0 r k) = ix3 b ⟨s * 1024 + r, by omega⟩ k := by
    blk_ext [i11]
  rw [hE, Ref.result_at]
  refine (Pay.result_at (x0 := iblk m c 0 t) (x1 := iblk m c 1 t) (x2 := iblk m c 2 t) (x3 := iblk m c 3 t) (x4 := iblk m c 4 t)
    (g := View.ld (iblk m c 5 t) (Rect.unit (k0_off1 (grid0.coords t)) ![1, 3072] (k0_off1_inb (grid0.coords t))))
    (x6 := iblk m c 6 t) (x7 := iblk m c 7 t) (x8 := iblk m c 8 t) (x9 := iblk m c 9 t) (x10 := iblk m c 10 t)
    (fun d => m ((c : Thread nD τ).loc main_arg6) (ix2 1 d)) (fun d => m ((c : Thread nD τ).loc main_arg7) (ix2 1 d))
    (b6 m c t) (b7 m c t) (b8 m c t) r ?_ k).trans ?_
  · intro l
    rw [b2 m c t b s hb hs r l, b3 m c t b s hb hs r l]
    exact hf _
  · simp only [b0 m c t b s hb hs, b1 m c t b s hb hs, b2 m c t b s hb hs, b3 m c t b s hb hs, b4 m c t b s hb hs, b5 m c t _ b hb,
      b9 m c t, b10 m c t]

end Cert.OutFinal

end
-- ==== Proof.ProjRows.lean ====
module

public import proofs.«01_k».proof.Proof.Rows

@[expose] public section

noncomputable section

/-! The input projection of one token's row, over the extended reals, and where each result's lanes lie among the
    4128 projected columns. -/

namespace Cert.Rows

open Idealize.ShloMosaic

/-- A row normalised, scaled by one plus `sc` and shifted by `sh`. -/
def hid (x w sc sh : Fin 1024 → EReal) (k : Fin 1024) : EReal := norm x w k * (1 + sc k) + sh k

/-- The scaled and shifted row against one column of the input weights. -/
def proj (x w sc sh col : Fin 1024 → EReal) : EReal := ∑ k : Fin 1024, hid x w sc sh k * col k

/-- The factor on the queries, `64^(-1/2) · log2 e` as stored. -/
def qscale : EReal := Ideal.ofBits .f32 0x3E38AA3B#32

/-- The projected column a gate lane is. -/
def gateCol (j : Fin 1024) : Fin 4128 :=
  ⟨if (j : ℕ) < 512 then 1536 + j else if (j : ℕ) < 768 then 2080 + j else 3104 + j, by split <;> [omega; split <;> omega]⟩

/-- The projected column a lane of the scans' input is. -/
def scanCol (j : Fin 1664) : Fin 4128 :=
  ⟨if (j : ℕ) < 256 then 2304 + j else if (j : ℕ) < 512 then 1792 + j else if (j : ℕ) < 640 then 2048 + j else 2208 + j,
    by split <;> [omega; split <;> [omega; split <;> omega]]⟩

end Cert.Rows

end
-- ==== Proof.PayIn.lean ====
module

public import proofs.«01_k».proof.Proof.Gen.Kernel2Ideal.Skeleton
public import proofs.«01_k».proof.Proof.ProjRows

@[expose] public section

set_option maxRecDepth 16384

noncomputable section

namespace Cert.InProj.Pay

open Cert.Kernel2Ideal Cert.Kernel2Ideal.Gen Idealize.ShloMosaic Idealize.ShloMosaic.TcCoe Idealize.SL.Sem

/-- Which of the two streams a grid point reads: the context at its first tile. -/
theorem sel : ∀ n : Fin 17, Scalar.cmpi .slt (Scalar.addi (BitVec.ofNat 32 n.val) 0#32) 1#32 = if n.val = 0 then 1#1 else 0#1 := by
  decide

/-- The projection of a tile's row, from the context's tile. -/
theorem proj_c (i : grid0.Coords) (hi : (i 1).val = 0) (x0 x1 : Vec Ideal S1x256x1024 .f32) (g : Vec Ideal S1x3072 .f32)
    (w : Vec Ideal S1x1024 .f32) (W : Vec Ideal S1x1024x4224 .bf16) (r : Fin 256) (j : Fin 4224) :
    k0_pay6 (F := Ideal) i x0 x1 g w W (ix2 r j)
      = Rows.proj (fun k => x0 (ix3 0 r k)) (fun k => w (ix2 0 k)) (fun k => g (ix2 0 ⟨1024 + k, by omega⟩))
          (fun k => g (ix2 0 ⟨k, by omega⟩)) (fun k => W (ix3 0 k j)) := by
  have h : Scalar.cmpi .slt (Scalar.addi (BitVec.ofNat 32 (i 1).val) 0#32) 1#32 = 1#1 := (sel (i 1)).trans (if_pos hi)
  unfold k0_pay6
  have e : ∀ a b : FVec Ideal S256x1024 .f32, Scalar.select (1#1) a b = a := fun _ _ => rfl
  simp only [h, e]
  pointwise
  rfl

/-- The projection of a tile's row, from the latent stream's tile. -/
theorem proj_x (i : grid0.Coords) (hi : (i 1).val ≠ 0) (x0 x1 : Vec Ideal S1x256x1024 .f32) (g : Vec Ideal S1x3072 .f32)
    (w : Vec Ideal S1x1024 .f32) (W : Vec Ideal S1x1024x4224 .bf16) (r : Fin 256) (j : Fin 4224) :
    k0_pay6 (F := Ideal) i x0 x1 g w W (ix2 r j)
      = Rows.proj (fun k => x1 (ix3 0 r k)) (fun k => w (ix2 0 k)) (fun k => g (ix2 0 ⟨1024 + k, by omega⟩))
          (fun k => g (ix2 0 ⟨k, by omega⟩)) (fun k => W (ix3 0 k j)) := by
  have h : Scalar.cmpi .slt (Scalar.addi (BitVec.ofNat 32 (i 1).val) 0#32) 1#32 = 0#1 := (sel (i 1)).trans (if_neg hi)
  unfold k0_pay6
  have e : ∀ a b : FVec Ideal S256x1024 .f32, Scalar.select (0#1) a b = b := fun _ _ => rfl
  simp only [h, e]
  pointwise
  rfl

variable (p : FVec Ideal S256x4224 .f32)

/-! What each store of queries, keys and values holds, by entry of the projection. -/

theorem q0 (v : FVec Ideal S256x128 .f32) (z0 z1 : Fin 1) (r : Fin 256) (d : Fin 128) : k0_pay8 (F := Ideal) v (ix4 z0 z1 r d) = v (ix2 r d) * Rows.qscale := by
  pointwise [k0_pay8]
  rfl

theorem q1 (z0 z1 : Fin 1) (r : Fin 256) (d : Fin 128) : k0_pay12 (F := Ideal) p (ix4 z0 z1 r d) = p (ix2 r ⟨128 + d, by omega⟩) * Rows.qscale := by
  pointwise [k0_pay12]
  rfl

theorem q2 (z0 z1 : Fin 1) (r : Fin 256) (d : Fin 128) : k0_pay17 (F := Ideal) p (ix4 z0 z1 r d) = p (ix2 r ⟨256 + d, by omega⟩) * Rows.qscale := by
  pointwise [k0_pay17]
  rfl

theorem q3 (z0 z1 : Fin 1) (r : Fin 256) (d : Fin 128) : k0_pay22 (F := Ideal) p (ix4 z0 z1 r d) = p (ix2 r ⟨384 + d, by omega⟩) * Rows.qscale := by
  pointwise [k0_pay22]
  rfl

theorem k0 (z0 z1 : Fin 1) (r : Fin 256) (d : Fin 128) : k0_pay9 (F := Ideal) p (ix4 z0 z1 r d) = p (ix2 r ⟨512 + d, by omega⟩) := by
  pointwise [k0_pay9]

theorem k1 (z0 z1 : Fin 1) (r : Fin 256) (d : Fin 128) : k0_pay14 (F := Ideal) (k0_pay13 (F := Ideal) p) (ix4 z0 z1 r d) = p (ix2 r ⟨640 + d, by omega⟩) := by
  pointwise [k0_pay14, k0_pay13]

theorem k2 (z0 z1 : Fin 1) (r : Fin 256) (d : Fin 128) : k0_pay18 (F := Ideal) p (ix4 z0 z1 r d) = p (ix2 r ⟨768 + d, by omega⟩) := by
  pointwise [k0_pay18]

theorem k3 (z0 z1 : Fin 1) (r : Fin 256) (d : Fin 128) : k0_pay23 (F := Ideal) p (ix4 z0 z1 r d) = p (ix2 r ⟨896 + d, by omega⟩) := by
  pointwise [k0_pay23]

theorem v00 (z0 z1 z2 : Fin 1) (d r : Fin 128) : k0_pay10 (F := Ideal) p (ix5 z0 z1 z2 d r) = p (ix2 ⟨0 + r, by omega⟩ ⟨1024 + d, by omega⟩) := by
  pointwise [k0_pay10]

theorem v01 (z0 z1 z2 : Fin 1) (d r : Fin 128) : k0_pay11 (F := Ideal) p (ix5 z0 z1 z2 d r) = p (ix2 ⟨128 + r, by omega⟩ ⟨1024 + d, by omega⟩) := by
  pointwise [k0_pay11]

theorem v10 (z0 z1 z2 : Fin 1) (d r : Fin 128) : k0_pay15 (F := Ideal) p (ix5 z0 z1 z2 d r) = p (ix2 ⟨0 + r, by omega⟩ ⟨1152 + d, by omega⟩) := by
  pointwise [k0_pay15]

theorem v11 (z0 z1 z2 : Fin 1) (d r : Fin 128) : k0_pay16 (F := Ideal) p (ix5 z0 z1 z2 d r) = p (ix2 ⟨128 + r, by omega⟩ ⟨1152 + d, by omega⟩) := by
  pointwise [k0_pay16]

theorem v20 (z0 z1 z2 : Fin 1) (d r : Fin 128) : k0_pay20 (F := Ideal) (k0_pay19 (F := Ideal) p) (ix5 z0 z1 z2 d r) = p (ix2 ⟨0 + r, by omega⟩ ⟨1280 + d, by omega⟩) := by
  pointwise [k0_pay20, k0_pay19]

theorem v21 (z0 z1 z2 : Fin 1) (d r : Fin 128) : k0_pay21 (F := Ideal) p (ix5 z0 z1 z2 d r) = p (ix2 ⟨128 + r, by omega⟩ ⟨1280 + d, by omega⟩) := by
  pointwise [k0_pay21]

theorem v30 (z0 z1 z2 : Fin 1) (d r : Fin 128) : k0_pay24 (F := Ideal) p (ix5 z0 z1 z2 d r) = p (ix2 ⟨0 + r, by omega⟩ ⟨1408 + d, by omega⟩) := by
  pointwise [k0_pay24]

theorem v31 (z0 z1 z2 : Fin 1) (d r : Fin 128) : k0_pay1 (F := Ideal) (k0_pay25 (F := Ideal) p) (ix5 z0 z1 z2 d r) = p (ix2 ⟨128 + r, by omega⟩ ⟨1408 + d, by omega⟩) := by
  pointwise [k0_pay1, k0_pay25]

/-- The projection's last columns, rolled by 32 to the left. -/
theorem roll_at (r : Fin 256) (j : Fin 1664) : k0_pay3 (F := Ideal) p (ix2 r j) = p (ix2 r ⟨2560 + (j + 1664 - 1632) % 1664, by omega⟩) := by
  pointwise [k0_pay3, k0_pay2]

/-- The gates. -/
theorem gates_at (r : Fin 256) (j : Fin 1024) : k0_pay4 (F := Ideal) p (ix3 0 r j) = p (ix2 r ⟨Rows.gateCol j, by omega⟩) := by
  pointwise [k0_pay4]
  simp only [roll_at]
  unfold Rows.gateCol
  split_ifs <;> first | omega | (refine congrArg p (congrArg (ix2 r) (Fin.ext ?_)); first | omega | rfl | (dsimp only; omega) | (split_ifs <;> omega) | (dsimp only; split_ifs <;> omega))

/-- The scans' input. -/
theorem scan_at (r : Fin 256) (j : Fin 1664) : k0_pay5 (F := Ideal) p (ix3 0 r j) = p (ix2 r ⟨Rows.scanCol j, by omega⟩) := by
  pointwise [k0_pay5, k0_pay2]
  simp only [roll_at]
  unfold Rows.scanCol
  split_ifs <;> first | omega | (refine congrArg p (congrArg (ix2 r) (Fin.ext ?_)); first | omega | rfl | (dsimp only; omega) | (split_ifs <;> omega) | (dsimp only; split_ifs <;> omega))

end Cert.InProj.Pay

end
-- ==== Proof.RefIn.lean ====
module

public import proofs.«01_k».proof.Proof.Gen.Reference2Ideal.Read
public import proofs.«01_k».proof.Proof.ProjRows

@[expose] public section

set_option maxRecDepth 16384

noncomputable section

namespace Cert.InProj.Ref

open Idealize.ShloMosaic Idealize.ShloMosaic.TcCoe Idealize.SL.Sem
open Cert.Reference2Ideal Cert.Reference2Ideal.Read

variable (x0 : FVec Ideal S8x256x1024 .f32) (x1 : FVec Ideal S8x4096x1024 .f32) (x2 : FVec Ideal S2x16x3072 .f32)
  (x3 : FVec Ideal S2x1024 .f32) (x4 : FVec Ideal S2x1024x4128 .f32)

/-- A context row, scaled and shifted. -/
theorem hidden_c (b : Fin 8) (t : Fin 256) (k : Fin 1024) : val_main_v51 (F := Ideal) x0 x2 x3 (ix3 b t k)
    = Rows.hid (fun k => x0 (ix3 b t k)) (fun k => x3 (ix2 0 k)) (fun k => x2 (ix3 0 8 ⟨1024 + k, by omega⟩))
        (fun k => x2 (ix3 0 8 ⟨k, by omega⟩)) k := by
  pointwise [val_main_v51, val_main_v48, val_main_v50, val_main_v43, val_main_v47, val_main_v49, val_main_v40, val_main_v42, val_main_v46, val_main_v9, val_main_v39, val_main_v41, val_main_v45, val_main_v8, val_main_v38, val_main_v3, val_main_v44, val_main_v11, val_main_v1, val_main_v37, val_main_v2, val_main_cst_6, val_main_v10, val_main_v0, val_main_v35, val_main_v36, val_main_v33, val_main_v34, val_main_cst_5, val_main_v32, val_main_cst_4, val_main_v31, val_main_cst_3]
  rfl

/-- A latent row, scaled and shifted. -/
theorem hidden_x (b : Fin 8) (t : Fin 4096) (k : Fin 1024) : val_main_v30 (F := Ideal) x1 x2 x3 (ix3 b t k)
    = Rows.hid (fun k => x1 (ix3 b t k)) (fun k => x3 (ix2 0 k)) (fun k => x2 (ix3 0 ⟨b, by omega⟩ ⟨1024 + k, by omega⟩))
        (fun k => x2 (ix3 0 ⟨b, by omega⟩ ⟨k, by omega⟩)) k := by
  pointwise [val_main_v30, val_main_v28, val_main_v29, val_main_v24, val_main_v27, val_main_v5, val_main_v21, val_main_v23, val_main_v26, val_main_v4, val_main_v20, val_main_v22, val_main_v25, val_main_v7, val_main_v1, val_main_v19, val_main_v3, val_main_cst_2, val_main_v6, val_main_v0, val_main_v18, val_main_v2, val_main_v16, val_main_v17, val_main_v14, val_main_v15, val_main_cst_1, val_main_v13, val_main_cst_0, val_main_v12, val_main_cst]
  rfl

/-- The projected columns of a context row. -/
theorem proj_c (b : Fin 8) (t : Fin 256) (j : Fin 4128) : val_main_v54 (F := Ideal) x0 x2 x3 x4 (ix3 b t j)
    = Rows.proj (fun k => x0 (ix3 b t k)) (fun k => x3 (ix2 0 k)) (fun k => x2 (ix3 0 8 ⟨1024 + k, by omega⟩))
        (fun k => x2 (ix3 0 8 ⟨k, by omega⟩)) (fun k => x4 (ix3 0 k j)) := by
  pointwise [val_main_v54, val_main_v53, val_main_v52]
  simp only [hidden_c]
  rfl

/-- The projected columns of a latent row. -/
theorem proj_x (b : Fin 8) (t : Fin 4096) (j : Fin 4128) : val_main_v55 (F := Ideal) x1 x2 x3 x4 (ix3 b t j)
    = Rows.proj (fun k => x1 (ix3 b t k)) (fun k => x3 (ix2 0 k)) (fun k => x2 (ix3 0 ⟨b, by omega⟩ ⟨1024 + k, by omega⟩))
        (fun k => x2 (ix3 0 ⟨b, by omega⟩ ⟨k, by omega⟩)) (fun k => x4 (ix3 0 k j)) := by
  pointwise [val_main_v55, val_main_v53, val_main_v52]
  simp only [hidden_x]
  rfl

/-- The projected columns of a row: the context's rows come first. -/
def cols (b : Fin 8) (t : Fin 4352) (j : Fin 4128) : EReal :=
  Rows.proj (fun k => if h : (t : ℕ) < 256 then x0 (ix3 b ⟨t, h⟩ k) else x1 (ix3 b ⟨t - 256, by omega⟩ k)) (fun k => x3 (ix2 0 k))
    (fun k => x2 (ix3 0 ⟨if (t : ℕ) < 256 then 8 else b, by split <;> omega⟩ ⟨1024 + k, by omega⟩))
    (fun k => x2 (ix3 0 ⟨if (t : ℕ) < 256 then 8 else b, by split <;> omega⟩ ⟨k, by omega⟩)) (fun k => x4 (ix3 0 k j))

theorem cols_at (b : Fin 8) (t : Fin 4352) (j : Fin 4128) : val_main_v56 (F := Ideal) x0 x1 x2 x3 x4 (ix3 b t j) = cols x0 x1 x2 x3 x4 b t j := by
  pointwise [val_main_v56]
  unfold cols
  by_cases h : (t : ℕ) < 256
  · simp only [h, if_true, dif_pos]
    exact proj_c x0 x2 x3 x4 b ⟨t, h⟩ j
  · simp only [h, if_false, dif_neg, not_false_eq_true]
    exact proj_x x1 x2 x3 x4 b ⟨t - 256, by omega⟩ j

/-- The scaled queries, by pairs of heads. -/
theorem q_at (b : Fin 8) (h : Fin 4) (t : Fin 4352) (d : Fin 128) : val_main_v82 (F := Ideal) x0 x1 x2 x3 x4 (ix4 b h t d)
    = cols x0 x1 x2 x3 x4 b t ⟨h * 128 + d, by omega⟩ * Rows.qscale := by
  pointwise [val_main_v82, val_main_v74, val_main_v73, val_main_v72, val_main_v57, val_main_v71, val_main_cst_7]
  rw [cols_at]
  rfl

/-- The keys' and the values' columns of the projection. -/
theorem kcol_at (b : Fin 8) (t : Fin 4352) (j : Fin 512) : val_main_v58 (F := Ideal) x0 x1 x2 x3 x4 (ix3 b t j)
    = val_main_v56 (F := Ideal) x0 x1 x2 x3 x4 (ix3 b t ⟨512 + j, by omega⟩) := by
  pointwise [val_main_v58]

theorem vcol_at (b : Fin 8) (t : Fin 4352) (j : Fin 512) : val_main_v59 (F := Ideal) x0 x1 x2 x3 x4 (ix3 b t j)
    = val_main_v56 (F := Ideal) x0 x1 x2 x3 x4 (ix3 b t ⟨1024 + j, by omega⟩) := by
  pointwise [val_main_v59]

/-- The keys' columns, by pairs of heads. -/
theorem kpair_at (b : Fin 8) (h : Fin 4) (t : Fin 4352) (d : Fin 128) : val_main_v76 (F := Ideal) x0 x1 x2 x3 x4 (ix4 b h t d)
    = val_main_v58 (F := Ideal) x0 x1 x2 x3 x4 (ix3 b t ⟨h * 128 + d, by omega⟩) := by
  pointwise [val_main_v76, val_main_v75]

/-- The values' columns, in transposed tiles. -/
theorem vtile_at (b : Fin 8) (h : Fin 4) (s : Fin 34) (d r : Fin 128) : val_main_v78 (F := Ideal) x0 x1 x2 x3 x4 (ix5 b h s d r)
    = val_main_v59 (F := Ideal) x0 x1 x2 x3 x4 (ix3 b ⟨s * 128 + r, by omega⟩ ⟨h * 128 + d, by omega⟩) := by
  pointwise [val_main_v78, val_main_v77]

/-- Narrowing changes no extended real. -/
theorem down (y : Ideal .f32) : (FloatOps.truncf (F := Ideal) (φ := .f32) .bf16 Gen.bitsLt_bf16_f32 y) = y := rfl

/-- The keys, by pairs of heads. -/
theorem k_at (b : Fin 8) (h : Fin 4) (t : Fin 4352) (d : Fin 128) : val_main_v83 (F := Ideal) x0 x1 x2 x3 x4 (ix4 b h t d)
    = cols x0 x1 x2 x3 x4 b t ⟨512 + (h * 128 + d), by omega⟩ := by
  have e := (kpair_at x0 x1 x2 x3 x4 b h t d).trans ((kcol_at x0 x1 x2 x3 x4 b t ⟨h * 128 + d, by omega⟩).trans
    (cols_at x0 x1 x2 x3 x4 b t ⟨512 + (h * 128 + d), by omega⟩))
  generalize cols x0 x1 x2 x3 x4 b t ⟨512 + (h * 128 + d), by omega⟩ = z at e ⊢
  refine Eq.trans ?_ e
  rw [val_main_v83_apply]
  exact down _

/-- The values, in transposed tiles of 128 rows. -/
theorem v_at (b : Fin 8) (h : Fin 4) (s : Fin 34) (d r : Fin 128) : val_main_v84 (F := Ideal) x0 x1 x2 x3 x4 (ix5 b h s d r)
    = cols x0 x1 x2 x3 x4 b ⟨s * 128 + r, by omega⟩ ⟨1024 + (h * 128 + d), by omega⟩ := by
  have e := (vtile_at x0 x1 x2 x3 x4 b h s d r).trans ((vcol_at x0 x1 x2 x3 x4 b ⟨s * 128 + r, by omega⟩ ⟨h * 128 + d, by omega⟩).trans
    (cols_at x0 x1 x2 x3 x4 b ⟨s * 128 + r, by omega⟩ ⟨1024 + (h * 128 + d), by omega⟩))
  generalize cols x0 x1 x2 x3 x4 b ⟨s * 128 + r, by omega⟩ ⟨1024 + (h * 128 + d), by omega⟩ = z at e ⊢
  refine Eq.trans ?_ e
  rw [val_main_v84_apply]
  exact down _

/-- The gates. -/
theorem gates_at (b : Fin 8) (t : Fin 4352) (j : Fin 1024) : val_main_v85 (F := Ideal) x0 x1 x2 x3 x4 (ix3 b t j)
    = cols x0 x1 x2 x3 x4 b t (Rows.gateCol j) := by
  pointwise [val_main_v85, val_main_v79, val_main_v60, val_main_v65, val_main_v70]
  simp only [cols_at]
  unfold Rows.gateCol
  split_ifs <;> first | omega | (refine congrArg _ (Fin.ext ?_); first | rfl | omega | (split_ifs <;> omega) | (dsimp only; split_ifs <;> omega))

/-- The scans' input. -/
theorem scan_at (b : Fin 8) (t : Fin 4352) (j : Fin 1664) : val_main_v81 (F := Ideal) x0 x1 x2 x3 x4 (ix3 b t j)
    = cols x0 x1 x2 x3 x4 b t (Rows.scanCol j) := by
  pointwise [val_main_v81, val_main_v63, val_main_v61, val_main_v62, val_main_v64, val_main_v80, val_main_v66, val_main_v67, val_main_v68, val_main_v69, val_main_v65]
  simp only [cols_at]
  unfold Rows.scanCol
  split_ifs <;> first | omega | (refine congrArg _ (Fin.ext ?_); first | rfl | omega | (split_ifs <;> omega) | (dsimp only; split_ifs <;> omega))

end Cert.InProj.Ref

end
-- ==== Proof.InValue.lean ====
module

public import proofs.«01_k».proof.Proof.Gen.Kernel2Ideal.Value
public import proofs.«01_k».proof.Proof.PayIn
public import proofs.«01_k».proof.Proof.RefIn

@[expose] public section

set_option maxRecDepth 16384

noncomputable section

namespace Cert.InProj

open Cert.Kernel2Ideal Cert.Kernel2Ideal.Gen Idealize.ShloMosaic Idealize.ShloMosaic.TcCoe Idealize.SL.Sem
open Idealize.ShloMosaic.Pipeline (Dat)

/-! The input projection as arrays: every block of the call's grid, read from the arrays the call is
    given, is the same rows of the plain formula. -/

variable (m : (ℓ : Loc nD τ sig) → Buf (Elt Ideal) ℓ)

/-- The block index of each window at each point, the row of the modulation table, and the tile's number. -/
theorem idx : ∀ t : Fin cfg0.N, win0_0.index t = ![t.val / 17, 0, 0] ∧ win0_1.index t = ![t.val / 17, t.val % 17 - 1, 0]
    ∧ win0_2.index t = ![0, 0] ∧ win0_3.index t = ![0, 0] ∧ win0_4.index t = ![0, 0, 0]
    ∧ win0_5.index t = ![t.val / 17, 0, t.val % 17, 0] ∧ win0_6.index t = ![t.val / 17, 0, t.val % 17, 0]
    ∧ win0_7.index t = ![t.val / 17, 0, t.val % 17, 0, 0]
    ∧ win0_8.index t = ![t.val / 17, t.val % 17, 0] ∧ win0_9.index t = ![t.val / 17, t.val % 17, 0]
    ∧ k0_off1 (grid0.coords t) = ![if t.val % 17 = 0 then 8 else t.val / 17, 0] ∧ ((grid0.coords t) 1).val = t.val % 17 :=
  (by decide +kernel : ∀ t : Fin grid0.N, _)

/-- An entry of a block of the context. -/
theorem b0 (c : Dev nD) (t : Fin cfg0.N) (b : Fin 8) (hb : b = t.val / 17) (r : Fin 256) (k : Fin 1024) :
    iblk m c 0 t (ix3 0 r k) = m ((c : Thread nD τ).loc main_arg0) (ix3 b r k) := by
  obtain ⟨i0, i1, i2, i3, i4, i5, i6, i7, i8, i9, o, n⟩ := idx t
  blk_point [iblk, V, i0]

/-- An entry of a block of the latents, one tile back. -/
theorem b1 (c : Dev nD) (t : Fin cfg0.N) (b : Fin 8) (s : Fin 17) (hb : b = t.val / 17) (hs : s = t.val % 17) (r : Fin 256) (k : Fin 1024) :
    iblk m c 1 t (ix3 0 r k) = m ((c : Thread nD τ).loc main_arg1) (ix3 b ⟨(s - 1) * 256 + r, by omega⟩ k) := by
  obtain ⟨i0, i1, i2, i3, i4, i5, i6, i7, i8, i9, o, n⟩ := idx t
  blk_point [iblk, V, i1]

/-- The first layer's modulation rows, taken out of the two layers' array. -/
theorem mod_at (x : Vec Ideal S2x16x3072 .f32) (b : Fin 16) (k : Fin 3072) :
    shapeCast S16x3072 (extractStridedSlice S1x16x3072 ![0, 0, 0] x slices_S2x16x3072_S1x16x3072_0_0_0) shapeCasts_S1x16x3072_S16x3072 (ix2 b k)
      = x (ix3 0 b k) := by
  pointwise

/-- The row of the modulation table the call loads: the context's row for the first tile, else the batch element's. -/
theorem b2 (c : Dev nD) (t : Fin cfg0.N) (k : Fin 3072) (b : Fin 16) (hb : b = if t.val % 17 = 0 then 8 else t.val / 17) :
    (View.ld (iblk m c 2 t) (Rect.unit (k0_off1 (grid0.coords t)) ![1, 3072] (k0_off1_inb (grid0.coords t))) : Vec Ideal S1x3072 .f32) (ix2 0 k)
      = m ((c : Thread nD τ).loc main_arg2) (ix3 0 b k) := by
  obtain ⟨i0, i1, i2, i3, i4, i5, i6, i7, i8, i9, o, n⟩ := idx t
  have h1 : ∀ x : Vec Ideal S16x3072 .f32,
      (View.ld x (Rect.unit (s := S16x3072) (k0_off1 (grid0.coords t)) ![1, 3072] (k0_off1_inb (grid0.coords t))) : Vec Ideal S1x3072 .f32) (ix2 0 k)
        = x (ix2 b k) := by
    intro x
    refine congrArg x (funext fun a => Fin.ext ?_)
    refine (ValueKit.rect_emb_unit_val _ _ _ _ a).trans ?_
    rw [congrFun o a]
    fin_cases a
    · simp [ix2, hb]
    · simp [ix2]
  refine (h1 (iblk m c 2 t)).trans ?_
  have hE : (win0_2.blk t).view.emb (ix2 b k) = ix2 b k := by blk_ext [i2]
  have hc : iblk m c 2 t (ix2 b k) = V m c main_v3 ((win0_2.blk t).view.emb (ix2 b k)) := rfl
  rw [hc, hE]
  have hv : V m c main_v3 = shapeCast S16x3072
      (extractStridedSlice S1x16x3072 ![0, 0, 0] (m (c, Proc.tc.devRef main_arg2)) slices_S2x16x3072_S1x16x3072_0_0_0)
      shapeCasts_S1x16x3072_S16x3072 := by
    unfold V; simp only [hostOps0, hostOps0_1, hostOps0_2, List.flatten_cons, List.flatten_nil, List.append_nil, List.cons_append, List.nil_append]; after_results; rfl
  rw [hv, mod_at]

/-- The first layer's normalisation weights, taken out of the two layers' array. -/
theorem norm_at (x : Vec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k)
      = x (ix2 0 k) := by
  pointwise

/-- The normalisation's weights are the first layer's, entry for entry. -/
theorem b3 (c : Dev nD) (t : Fin cfg0.N) (k : Fin 1024) : iblk m c 3 t (ix2 0 k) = m ((c : Thread nD τ).loc main_arg3) (ix2 0 k) := by
  obtain ⟨i0, i1, i2, i3, i4, i5, i6, i7, i8, i9, o, n⟩ := idx t
  have hE : (win0_3.blk t).view.emb (ix2 0 k) = ix2 0 k := by blk_ext [i3]
  have hc : iblk m c 3 t (ix2 0 k) = V m c main_v6 ((win0_3.blk t).view.emb (ix2 0 k)) := rfl
  rw [hc, hE]
  have hv : V m c main_v6 = shapeCast S1x1024 (shapeCast S1024 (extractStridedSlice S1x1024 ![0, 0] (m (c, Proc.tc.devRef main_arg3))
      slices_S2x1024_S1x1024_0_0) shapeCasts_S1x1024_S1024) shapeCasts_S1024_S1x1024 := by
    unfold V; simp only [hostOps0, hostOps0_1, hostOps0_2, List.flatten_cons, List.flatten_nil, List.append_nil, List.cons_append, List.nil_append]; after_results; rfl
  rw [hv, norm_at]

/-- Padding 96 columns behind the weights changes none of the columns before. -/
theorem pad_at (x : Vec Ideal S2x1024x4128 .bf16) (v : Vec Ideal S_ .bf16) (l : Fin 2) (k : Fin 1024) (j : Fin 4128) :
    pad S2x1024x4224 ![0, 0, 0] ![0, 0, 96] ![0, 0, 0] x v pads_S2x1024x4128_S2x1024x4224_000_000_0960 h_S_ (ix3 l k ⟨j, by omega⟩) = x (ix3 l k j) := by
  pointwise

/-- The projection's weights are the first layer's, entry for entry, in the columns before the padding. -/
theorem b4 (c : Dev nD) (t : Fin cfg0.N) (k : Fin 1024) (j : Fin 4128) :
    iblk m c 4 t (ix3 0 k ⟨j, by omega⟩) = m ((c : Thread nD τ).loc main_arg4) (ix3 0 k j) := by
  obtain ⟨i0, i1, i2, i3, i4, i5, i6, i7, i8, i9, o, n⟩ := idx t
  have hE : (win0_4.blk t).view.emb (ix3 0 k ⟨j, by omega⟩) = ix3 0 k ⟨j, by omega⟩ := by blk_ext [i4]
  have hc : iblk m c 4 t (ix3 0 k ⟨j, by omega⟩) = V m c main_v1 ((win0_4.blk t).view.emb (ix3 0 k ⟨j, by omega⟩)) := rfl
  rw [hc, hE]
  have hv : V m c main_v1 = pad S2x1024x4224 ![0, 0, 0] ![0, 0, 96] ![0, 0, 0] (truncf (F := Ideal) .bf16 (m (c, Proc.tc.devRef main_arg4)) bitsLt_bf16_f32)
      (sitofp (F := Ideal) .bf16 (constantI S_ 32 0#32)) pads_S2x1024x4128_S2x1024x4224_000_000_0960 h_S_ := by
    unfold V; simp only [hostOps0, hostOps0_1, hostOps0_2, List.flatten_cons, List.flatten_nil, List.append_nil, List.cons_append, List.nil_append]; after_results; rfl
  rw [hv, pad_at]
  rfl

/-- The projection of a tile's rows, as the call computes it. -/
abbrev tile (c : Dev nD) (t : Fin cfg0.N) : FVec Ideal S256x4224 .f32 :=
  k0_pay6 (F := Ideal) (grid0.coords t) (iblk m c 0 t) (iblk m c 1 t)
    (View.ld (iblk m c 2 t) (Rect.unit (k0_off1 (grid0.coords t)) ![1, 3072] (k0_off1_inb (grid0.coords t)))) (iblk m c 3 t) (iblk m c 4 t)

/-- The plain formula's columns of the arrays the call is given. -/
abbrev cols (c : Dev nD) : Fin 8 → Fin 4352 → Fin 4128 → EReal :=
  Ref.cols (m ((c : Thread nD τ).loc main_arg0)) (m ((c : Thread nD τ).loc main_arg1)) (m ((c : Thread nD τ).loc main_arg2))
    (m ((c : Thread nD τ).loc main_arg3)) (m ((c : Thread nD τ).loc main_arg4))

/-- The projection of a tile's row is the plain formula's at that row. -/
theorem tile_at (c : Dev nD) (t : Fin cfg0.N) (b : Fin 8) (s : Fin 17) (hb : b = t.val / 17) (hs : s = t.val % 17) (r : Fin 256) (j : Fin 4128) :
    tile m c t (ix2 r ⟨j, by omega⟩) = cols m c b ⟨s * 256 + r, by omega⟩ j := by
  obtain ⟨i0, i1, i2, i3, i4, i5, i6, i7, i8, i9, o, n⟩ := idx t
  unfold cols Ref.cols
  by_cases h : t.val % 17 = 0
  · have hlt : (s : ℕ) * 256 + r < 256 := by omega
    refine (Pay.proj_c (grid0.coords t) (n.trans h) _ _ _ _ _ r ⟨j, by omega⟩).trans ?_
    simp only [b0 m c t b hb, b2 m c t _ (⟨8, by omega⟩ : Fin 16) (by simp [h]), b3 m c t, b4 m c t, hlt, if_true, dif_pos]
    congr 1
    funext k
    refine congrArg _ (congrArg (fun r => ix3 b r k) (Fin.ext ?_))
    show (r : ℕ) = (s : ℕ) * 256 + r
    omega
  · have hlt : ¬ (s : ℕ) * 256 + r < 256 := by omega
    refine (Pay.proj_x (grid0.coords t) (by rw [n]; exact h) _ _ _ _ _ r ⟨j, by omega⟩).trans ?_
    simp only [b1 m c t b s hb hs, b2 m c t _ (⟨b, by omega⟩ : Fin 16) (by simp [h, hb]), b3 m c t, b4 m c t, hlt, if_false, dif_neg, not_false_eq_true]
    congr 1
    funext k
    refine congrArg _ (congrArg (fun r => ix3 b r k) (Fin.ext ?_))
    show ((s : ℕ) - 1) * 256 + r = (s : ℕ) * 256 + r - 256
    omega

/-- The projection's first 128 columns are cut out of it. -/
theorem head_at (c : Dev nD) (t : Fin cfg0.N) (r : Fin 256) (d : Fin 128) :
    k0_pay7 (F := Ideal) (grid0.coords t) (iblk m c 0 t) (iblk m c 1 t)
      (View.ld (iblk m c 2 t) (Rect.unit (k0_off1 (grid0.coords t)) ![1, 3072] (k0_off1_inb (grid0.coords t)))) (iblk m c 3 t) (iblk m c 4 t) (ix2 r d)
      = tile m c t (ix2 r ⟨d, by omega⟩) := by
  unfold tile
  pointwise [k0_pay7]

/-- The plain formula's columns at equal indices. -/
theorem cols_congr (c : Dev nD) (b : Fin 8) {t t' : Fin 4352} {j j' : Fin 4128} (ht : (t : ℕ) = t') (hj : (j : ℕ) = j') :
    cols m c b t j = cols m c b t' j' := by
  rw [Fin.ext ht, Fin.ext hj]

/-- The queries' array. -/
theorem final_q (c : Dev nD) : (dats m 0 c).arrAt 5 cfg0.N
      = Cert.Reference2Ideal.Read.val_main_v82 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  obtain ⟨y0, y1, r, d, rfl⟩ : ∃ (y0 : Fin 1) (y1 : Fin 4) (r : Fin 256) (d : Fin 128), y = ix4 y0 y1 r d := ⟨y 0, y 1, y 2, y 3, by funext a; fin_cases a <;> rfl⟩
  obtain rfl : y0 = 0 := Subsingleton.elim _ _
  obtain ⟨i0, i1, i2, i3, i4, i5, i6, i7, i8, i9, o, n⟩ := idx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v7_0).slice (win0_5.rect t)).emb (ix4 0 y1 r d) = ix4 b y1 ⟨s * 256 + r, by omega⟩ d := by
    blk_ext [i5]
  rw [hE, Ref.q_at]
  canon_tiles x h
  all_goals
    obtain ⟨x0, x1, r', d', rfl⟩ : ∃ (x0 x1 : Fin 1) (r' : Fin 256) (d' : Fin 128), x = ix4 x0 x1 r' d' := ⟨x 0, x 1, x 2, x 3, by funext a; fin_cases a <;> rfl⟩
    simp only [ix4, Matrix.cons_val] at h0 h1 h2 h3
  · exact (Pay.q3 (p := tile m c t) x0 x1 r' d').trans (congrArg (· * Rows.qscale) ((tile_at m c t b s hb hs r' ⟨384 + d', by omega⟩).trans (cols_congr m c b (by dsimp only; omega) (by dsimp only; omega))))
  · exact (Pay.q2 (p := tile m c t) x0 x1 r' d').trans (congrArg (· * Rows.qscale) ((tile_at m c t b s hb hs r' ⟨256 + d', by omega⟩).trans (cols_congr m c b (by dsimp only; omega) (by dsimp only; omega))))
  · exact (Pay.q1 (p := tile m c t) x0 x1 r' d').trans (congrArg (· * Rows.qscale) ((tile_at m c t b s hb hs r' ⟨128 + d', by omega⟩).trans (cols_congr m c b (by dsimp only; omega) (by dsimp only; omega))))
  · exact (Pay.q0 _ x0 x1 r' d').trans (congrArg (· * Rows.qscale) (((head_at m c t r' d').trans (tile_at m c t b s hb hs r' ⟨d', by omega⟩)).trans (cols_congr m c b (by dsimp only; omega) (by dsimp only; omega))))

/-- The keys' array. -/
theorem final_k (c : Dev nD) : (dats m 0 c).arrAt 6 cfg0.N
      = Cert.Reference2Ideal.Read.val_main_v83 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold outsAt0; frame_out
  obtain ⟨y0, y1, r, d, rfl⟩ : ∃ (y0 : Fin 1) (y1 : Fin 4) (r : Fin 256) (d : Fin 128), y = ix4 y0 y1 r d := ⟨y 0, y 1, y 2, y 3, by funext a; fin_cases a <;> rfl⟩
  obtain rfl : y0 = 0 := Subsingleton.elim _ _
  obtain ⟨i0, i1, i2, i3, i4, i5, i6, i7, i8, i9, o, n⟩ := idx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v7_1).slice (win0_6.rect t)).emb (ix4 0 y1 r d) = ix4 b y1 ⟨s * 256 + r, by omega⟩ d := by
    blk_ext [i6]
  rw [hE, Ref.k_at]
  canon_tiles x h
  all_goals
    obtain ⟨x0, x1, r', d', rfl⟩ : ∃ (x0 x1 : Fin 1) (r' : Fin 256) (d' : Fin 128), x = ix4 x0 x1 r' d' := ⟨x 0, x 1, x 2, x 3, by funext a; fin_cases a <;> rfl⟩
    simp only [ix4, Matrix.cons_val] at h0 h1 h2 h3
  · exact (Pay.k3 (p := tile m c t) x0 x1 r' d').trans ((tile_at m c t b s hb hs r' ⟨896 + d', by omega⟩).trans (cols_congr m c b (by dsimp only; omega) (by dsimp only; omega)))
  · exact (Pay.k2 (p := tile m c t) x0 x1 r' d').trans ((tile_at m c t b s hb hs r' ⟨768 + d', by omega⟩).trans (cols_congr m c b (by dsimp only; omega) (by dsimp only; omega)))
  · exact (Pay.k1 (p := tile m c t) x0 x1 r' d').trans ((tile_at m c t b s hb hs r' ⟨640 + d', by omega⟩).trans (cols_congr m c b (by dsimp only; omega) (by dsimp only; omega)))
  · exact (Pay.k0 (p := tile m c t) x0 x1 r' d').trans ((tile_at m c t b s hb hs r' ⟨512 + d', by omega⟩).trans (cols_congr m c b (by dsimp only; omega) (by dsimp only; omega)))

/-- The values' array. -/
theorem final_v (c : Dev nD) : (dats m 0 c).arrAt 7 cfg0.N
      = Cert.Reference2Ideal.Read.val_main_v84 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; unfold outsAt0; frame_out
  obtain ⟨y0, y1, y2, d, r, rfl⟩ : ∃ (y0 : Fin 1) (y1 : Fin 4) (y2 : Fin 2) (d r : Fin 128), y = ix5 y0 y1 y2 d r := ⟨y 0, y 1, y 2, y 3, y 4, by funext a; fin_cases a <;> rfl⟩
  obtain rfl : y0 = 0 := Subsingleton.elim _ _
  obtain ⟨i0, i1, i2, i3, i4, i5, i6, i7, i8, i9, o, n⟩ := idx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v7_2).slice (win0_7.rect t)).emb (ix5 0 y1 y2 d r) = ix5 b y1 ⟨s * 2 + y2, by omega⟩ d r := by
    blk_ext [i7]
  rw [hE, Ref.v_at]
  canon_tiles x h
  all_goals
    obtain ⟨x0, x1, x2, d', r', rfl⟩ : ∃ (x0 x1 x2 : Fin 1) (d' r' : Fin 128), x = ix5 x0 x1 x2 d' r' := ⟨x 0, x 1, x 2, x 3, x 4, by funext a; fin_cases a <;> rfl⟩
    simp only [ix5, Matrix.cons_val] at h0 h1 h2 h3 h4
  · exact (Pay.v31 (p := tile m c t) x0 x1 x2 d' r').trans ((tile_at m c t b s hb hs ⟨128 + r', by omega⟩ ⟨1408 + d', by omega⟩).trans (cols_congr m c b (by dsimp only; omega) (by dsimp only; omega)))
  · exact (Pay.v30 (p := tile m c t) x0 x1 x2 d' r').trans ((tile_at m c t b s hb hs ⟨0 + r', by omega⟩ ⟨1408 + d', by omega⟩).trans (cols_congr m c b (by dsimp only; omega) (by dsimp only; omega)))
  · exact (Pay.v21 (p := tile m c t) x0 x1 x2 d' r').trans ((tile_at m c t b s hb hs ⟨128 + r', by omega⟩ ⟨1280 + d', by omega⟩).trans (cols_congr m c b (by dsimp only; omega) (by dsimp only; omega)))
  · exact (Pay.v20 (p := tile m c t) x0 x1 x2 d' r').trans ((tile_at m c t b s hb hs ⟨0 + r', by omega⟩ ⟨1280 + d', by omega⟩).trans (cols_congr m c b (by dsimp only; omega) (by dsimp only; omega)))
  · exact (Pay.v11 (p := tile m c t) x0 x1 x2 d' r').trans ((tile_at m c t b s hb hs ⟨128 + r', by omega⟩ ⟨1152 + d', by omega⟩).trans (cols_congr m c b (by dsimp only; omega) (by dsimp only; omega)))
  · exact (Pay.v10 (p := tile m c t) x0 x1 x2 d' r').trans ((tile_at m c t b s hb hs ⟨0 + r', by omega⟩ ⟨1152 + d', by omega⟩).trans (cols_congr m c b (by dsimp only; omega) (by dsimp only; omega)))
  · exact (Pay.v01 (p := tile m c t) x0 x1 x2 d' r').trans ((tile_at m c t b s hb hs ⟨128 + r', by omega⟩ ⟨1024 + d', by omega⟩).trans (cols_congr m c b (by dsimp only; omega) (by dsimp only; omega)))
  · exact (Pay.v00 (p := tile m c t) x0 x1 x2 d' r').trans ((tile_at m c t b s hb hs ⟨0 + r', by omega⟩ ⟨1024 + d', by omega⟩).trans (cols_congr m c b (by dsimp only; omega) (by dsimp only; omega)))

/-- The scans' array. -/
theorem final_scan (c : Dev nD) : (dats m 0 c).arrAt 9 cfg0.N
      = Cert.Reference2Ideal.Read.val_main_v81 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; unfold outsAt0; frame_out
  obtain ⟨y0, r, k, rfl⟩ : ∃ (y0 : Fin 1) (r : Fin 256) (k : Fin 1664), y = ix3 y0 r k := ⟨y 0, y 1, y 2, by funext a; fin_cases a <;> rfl⟩
  obtain rfl : y0 = 0 := Subsingleton.elim _ _
  obtain ⟨i0, i1, i2, i3, i4, i5, i6, i7, i8, i9, o, n⟩ := idx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v7_4).slice (win0_9.rect t)).emb (ix3 0 r k) = ix3 b ⟨s * 256 + r, by omega⟩ k := by
    blk_ext [i9]
  rw [hE, Ref.scan_at]
  exact (Pay.scan_at (p := tile m c t) r k).trans (tile_at m c t b s hb hs r (Rows.scanCol k))

/-- The gates' array. -/
theorem final_gates (c : Dev nD) : (dats m 0 c).arrAt 8 cfg0.N
      = Cert.Reference2Ideal.Read.val_main_v85 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; unfold outsAt0; frame_out
  obtain ⟨y0, r, k, rfl⟩ : ∃ (y0 : Fin 1) (r : Fin 256) (k : Fin 1024), y = ix3 y0 r k := ⟨y 0, y 1, y 2, by funext a; fin_cases a <;> rfl⟩
  obtain rfl : y0 = 0 := Subsingleton.elim _ _
  obtain ⟨i0, i1, i2, i3, i4, i5, i6, i7, i8, i9, o, n⟩ := idx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v7_3).slice (win0_8.rect t)).emb (ix3 0 r k) = ix3 b ⟨s * 256 + r, by omega⟩ k := by
    blk_ext [i8]
  rw [hE, Ref.gates_at]
  exact (Pay.gates_at (p := tile m c t) r k).trans (tile_at m c t b s hb hs r (Rows.gateCol k))

end Cert.InProj

end
-- ==== Proof.BdTable3.lean ====
module

public import proofs.«01_k».proof.Kernel3Ideal
public import Idealize.ShloMosaic.Lib.Pipeline.ValueKit

@[expose] public section

set_option maxRecDepth 65536

noncomputable section

namespace Cert.OutIn.Bd

open Idealize.ShloMosaic Cert.Kernel3Ideal

/-- Two functions whose values listed over the first 128 numbers agree, agree at each of them. -/
theorem eq_of_lists (f g : Nat → BitVec 16) (h : (List.range 128).map f = (List.range 128).map g) (q : Nat)
    (hq : q < 128) : f q = g q :=
  List.map_inj_left.mp h q (List.mem_range.mpr hq)

/-- The half row of 128 entries number `n` of the table, one of three: the group on its left, the group on its right,
    or no group at all. -/
def half (n i : Nat) : BitVec 16 :=
  cond (Nat.beq (n / 2 / 64) (2 * (n % 2))) (lit0t0_0 i)
    (cond (Nat.beq (n / 2 / 64) (2 * (n % 2) + 1)) (lit0t0_128 i) (lit0t0_1 i))

/-- Half row number `0 + q`, as the table spells it. -/
def arms0 (q i : Nat) : BitVec 16 := match q with
  | 0 => lit0t0_0 i | 1 => lit0t0_1 i | 2 => lit0t0_2 i | 3 => lit0t0_3 i | 4 => lit0t0_4 i | 5 => lit0t0_5 i | 6 => lit0t0_6 i | 7 => lit0t0_7 i
  | 8 => lit0t0_8 i | 9 => lit0t0_9 i | 10 => lit0t0_10 i | 11 => lit0t0_11 i | 12 => lit0t0_12 i | 13 => lit0t0_13 i | 14 => lit0t0_14 i | 15 => lit0t0_15 i
  | 16 => lit0t0_16 i | 17 => lit0t0_17 i | 18 => lit0t0_18 i | 19 => lit0t0_19 i | 20 => lit0t0_20 i | 21 => lit0t0_21 i | 22 => lit0t0_22 i | 23 => lit0t0_23 i
  | 24 => lit0t0_24 i | 25 => lit0t0_25 i | 26 => lit0t0_26 i | 27 => lit0t0_27 i | 28 => lit0t0_28 i | 29 => lit0t0_29 i | 30 => lit0t0_30 i | 31 => lit0t0_31 i
  | 32 => lit0t0_32 i | 33 => lit0t0_33 i | 34 => lit0t0_34 i | 35 => lit0t0_35 i | 36 => lit0t0_36 i | 37 => lit0t0_37 i | 38 => lit0t0_38 i | 39 => lit0t0_39 i
  | 40 => lit0t0_40 i | 41 => lit0t0_41 i | 42 => lit0t0_42 i | 43 => lit0t0_43 i | 44 => lit0t0_44 i | 45 => lit0t0_45 i | 46 => lit0t0_46 i | 47 => lit0t0_47 i
  | 48 => lit0t0_48 i | 49 => lit0t0_49 i | 50 => lit0t0_50 i | 51 => lit0t0_51 i | 52 => lit0t0_52 i | 53 => lit0t0_53 i | 54 => lit0t0_54 i | 55 => lit0t0_55 i
  | 56 => lit0t0_56 i | 57 => lit0t0_57 i | 58 => lit0t0_58 i | 59 => lit0t0_59 i | 60 => lit0t0_60 i | 61 => lit0t0_61 i | 62 => lit0t0_62 i | 63 => lit0t0_63 i
  | 64 => lit0t0_64 i | 65 => lit0t0_65 i | 66 => lit0t0_66 i | 67 => lit0t0_67 i | 68 => lit0t0_68 i | 69 => lit0t0_69 i | 70 => lit0t0_70 i | 71 => lit0t0_71 i
  | 72 => lit0t0_72 i | 73 => lit0t0_73 i | 74 => lit0t0_74 i | 75 => lit0t0_75 i | 76 => lit0t0_76 i | 77 => lit0t0_77 i | 78 => lit0t0_78 i | 79 => lit0t0_79 i
  | 80 => lit0t0_80 i | 81 => lit0t0_81 i | 82 => lit0t0_82 i | 83 => lit0t0_83 i | 84 => lit0t0_84 i | 85 => lit0t0_85 i | 86 => lit0t0_86 i | 87 => lit0t0_87 i
  | 88 => lit0t0_88 i | 89 => lit0t0_89 i | 90 => lit0t0_90 i | 91 => lit0t0_91 i | 92 => lit0t0_92 i | 93 => lit0t0_93 i | 94 => lit0t0_94 i | 95 => lit0t0_95 i
  | 96 => lit0t0_96 i | 97 => lit0t0_97 i | 98 => lit0t0_98 i | 99 => lit0t0_99 i | 100 => lit0t0_100 i | 101 => lit0t0_101 i | 102 => lit0t0_102 i | 103 => lit0t0_103 i
  | 104 => lit0t0_104 i | 105 => lit0t0_105 i | 106 => lit0t0_106 i | 107 => lit0t0_107 i | 108 => lit0t0_108 i | 109 => lit0t0_109 i | 110 => lit0t0_110 i | 111 => lit0t0_111 i
  | 112 => lit0t0_112 i | 113 => lit0t0_113 i | 114 => lit0t0_114 i | 115 => lit0t0_115 i | 116 => lit0t0_116 i | 117 => lit0t0_117 i | 118 => lit0t0_118 i | 119 => lit0t0_119 i
  | 120 => lit0t0_120 i | 121 => lit0t0_121 i | 122 => lit0t0_122 i | 123 => lit0t0_123 i | 124 => lit0t0_124 i | 125 => lit0t0_125 i | 126 => lit0t0_126 i | 127 => lit0t0_127 i
  | _ => 0#16

/-- Quarter 0 of the table, half row by half row. -/
theorem quarter0 (i : Nat) : lit0t1_0 i = half (0 + i / 128 % 128) i :=
  (show lit0t1_0 i = arms0 (i / 128 % 128) i by sl_kernel_rfl).trans
    (eq_of_lists (fun q => arms0 q i) (fun q => half (0 + q) i) (by sl_kernel_rfl) _ (Nat.mod_lt _ (by decide)))

/-- Half row number `128 + q`, as the table spells it. -/
def arms1 (q i : Nat) : BitVec 16 := match q with
  | 0 => lit0t0_128 i | 1 => lit0t0_129 i | 2 => lit0t0_130 i | 3 => lit0t0_131 i | 4 => lit0t0_132 i | 5 => lit0t0_133 i | 6 => lit0t0_134 i | 7 => lit0t0_135 i
  | 8 => lit0t0_136 i | 9 => lit0t0_137 i | 10 => lit0t0_138 i | 11 => lit0t0_139 i | 12 => lit0t0_140 i | 13 => lit0t0_141 i | 14 => lit0t0_142 i | 15 => lit0t0_143 i
  | 16 => lit0t0_144 i | 17 => lit0t0_145 i | 18 => lit0t0_146 i | 19 => lit0t0_147 i | 20 => lit0t0_148 i | 21 => lit0t0_149 i | 22 => lit0t0_150 i | 23 => lit0t0_151 i
  | 24 => lit0t0_152 i | 25 => lit0t0_153 i | 26 => lit0t0_154 i | 27 => lit0t0_155 i | 28 => lit0t0_156 i | 29 => lit0t0_157 i | 30 => lit0t0_158 i | 31 => lit0t0_159 i
  | 32 => lit0t0_160 i | 33 => lit0t0_161 i | 34 => lit0t0_162 i | 35 => lit0t0_163 i | 36 => lit0t0_164 i | 37 => lit0t0_165 i | 38 => lit0t0_166 i | 39 => lit0t0_167 i
  | 40 => lit0t0_168 i | 41 => lit0t0_169 i | 42 => lit0t0_170 i | 43 => lit0t0_171 i | 44 => lit0t0_172 i | 45 => lit0t0_173 i | 46 => lit0t0_174 i | 47 => lit0t0_175 i
  | 48 => lit0t0_176 i | 49 => lit0t0_177 i | 50 => lit0t0_178 i | 51 => lit0t0_179 i | 52 => lit0t0_180 i | 53 => lit0t0_181 i | 54 => lit0t0_182 i | 55 => lit0t0_183 i
  | 56 => lit0t0_184 i | 57 => lit0t0_185 i | 58 => lit0t0_186 i | 59 => lit0t0_187 i | 60 => lit0t0_188 i | 61 => lit0t0_189 i | 62 => lit0t0_190 i | 63 => lit0t0_191 i
  | 64 => lit0t0_192 i | 65 => lit0t0_193 i | 66 => lit0t0_194 i | 67 => lit0t0_195 i | 68 => lit0t0_196 i | 69 => lit0t0_197 i | 70 => lit0t0_198 i | 71 => lit0t0_199 i
  | 72 => lit0t0_200 i | 73 => lit0t0_201 i | 74 => lit0t0_202 i | 75 => lit0t0_203 i | 76 => lit0t0_204 i | 77 => lit0t0_205 i | 78 => lit0t0_206 i | 79 => lit0t0_207 i
  | 80 => lit0t0_208 i | 81 => lit0t0_209 i | 82 => lit0t0_210 i | 83 => lit0t0_211 i | 84 => lit0t0_212 i | 85 => lit0t0_213 i | 86 => lit0t0_214 i | 87 => lit0t0_215 i
  | 88 => lit0t0_216 i | 89 => lit0t0_217 i | 90 => lit0t0_218 i | 91 => lit0t0_219 i | 92 => lit0t0_220 i | 93 => lit0t0_221 i | 94 => lit0t0_222 i | 95 => lit0t0_223 i
  | 96 => lit0t0_224 i | 97 => lit0t0_225 i | 98 => lit0t0_226 i | 99 => lit0t0_227 i | 100 => lit0t0_228 i | 101 => lit0t0_229 i | 102 => lit0t0_230 i | 103 => lit0t0_231 i
  | 104 => lit0t0_232 i | 105 => lit0t0_233 i | 106 => lit0t0_234 i | 107 => lit0t0_235 i | 108 => lit0t0_236 i | 109 => lit0t0_237 i | 110 => lit0t0_238 i | 111 => lit0t0_239 i
  | 112 => lit0t0_240 i | 113 => lit0t0_241 i | 114 => lit0t0_242 i | 115 => lit0t0_243 i | 116 => lit0t0_244 i | 117 => lit0t0_245 i | 118 => lit0t0_246 i | 119 => lit0t0_247 i
  | 120 => lit0t0_248 i | 121 => lit0t0_249 i | 122 => lit0t0_250 i | 123 => lit0t0_251 i | 124 => lit0t0_252 i | 125 => lit0t0_253 i | 126 => lit0t0_254 i | 127 => lit0t0_255 i
  | _ => 0#16

/-- Quarter 1 of the table, half row by half row. -/
theorem quarter1 (i : Nat) : lit0t1_1 i = half (128 + i / 128 % 128) i :=
  (show lit0t1_1 i = arms1 (i / 128 % 128) i by sl_kernel_rfl).trans
    (eq_of_lists (fun q => arms1 q i) (fun q => half (128 + q) i) (by sl_kernel_rfl) _ (Nat.mod_lt _ (by decide)))

/-- Half row number `256 + q`, as the table spells it. -/
def arms2 (q i : Nat) : BitVec 16 := match q with
  | 0 => lit0t0_256 i | 1 => lit0t0_257 i | 2 => lit0t0_258 i | 3 => lit0t0_259 i | 4 => lit0t0_260 i | 5 => lit0t0_261 i | 6 => lit0t0_262 i | 7 => lit0t0_263 i
  | 8 => lit0t0_264 i | 9 => lit0t0_265 i | 10 => lit0t0_266 i | 11 => lit0t0_267 i | 12 => lit0t0_268 i | 13 => lit0t0_269 i | 14 => lit0t0_270 i | 15 => lit0t0_271 i
  | 16 => lit0t0_272 i | 17 => lit0t0_273 i | 18 => lit0t0_274 i | 19 => lit0t0_275 i | 20 => lit0t0_276 i | 21 => lit0t0_277 i | 22 => lit0t0_278 i | 23 => lit0t0_279 i
  | 24 => lit0t0_280 i | 25 => lit0t0_281 i | 26 => lit0t0_282 i | 27 => lit0t0_283 i | 28 => lit0t0_284 i | 29 => lit0t0_285 i | 30 => lit0t0_286 i | 31 => lit0t0_287 i
  | 32 => lit0t0_288 i | 33 => lit0t0_289 i | 34 => lit0t0_290 i | 35 => lit0t0_291 i | 36 => lit0t0_292 i | 37 => lit0t0_293 i | 38 => lit0t0_294 i | 39 => lit0t0_295 i
  | 40 => lit0t0_296 i | 41 => lit0t0_297 i | 42 => lit0t0_298 i | 43 => lit0t0_299 i | 44 => lit0t0_300 i | 45 => lit0t0_301 i | 46 => lit0t0_302 i | 47 => lit0t0_303 i
  | 48 => lit0t0_304 i | 49 => lit0t0_305 i | 50 => lit0t0_306 i | 51 => lit0t0_307 i | 52 => lit0t0_308 i | 53 => lit0t0_309 i | 54 => lit0t0_310 i | 55 => lit0t0_311 i
  | 56 => lit0t0_312 i | 57 => lit0t0_313 i | 58 => lit0t0_314 i | 59 => lit0t0_315 i | 60 => lit0t0_316 i | 61 => lit0t0_317 i | 62 => lit0t0_318 i | 63 => lit0t0_319 i
  | 64 => lit0t0_320 i | 65 => lit0t0_321 i | 66 => lit0t0_322 i | 67 => lit0t0_323 i | 68 => lit0t0_324 i | 69 => lit0t0_325 i | 70 => lit0t0_326 i | 71 => lit0t0_327 i
  | 72 => lit0t0_328 i | 73 => lit0t0_329 i | 74 => lit0t0_330 i | 75 => lit0t0_331 i | 76 => lit0t0_332 i | 77 => lit0t0_333 i | 78 => lit0t0_334 i | 79 => lit0t0_335 i
  | 80 => lit0t0_336 i | 81 => lit0t0_337 i | 82 => lit0t0_338 i | 83 => lit0t0_339 i | 84 => lit0t0_340 i | 85 => lit0t0_341 i | 86 => lit0t0_342 i | 87 => lit0t0_343 i
  | 88 => lit0t0_344 i | 89 => lit0t0_345 i | 90 => lit0t0_346 i | 91 => lit0t0_347 i | 92 => lit0t0_348 i | 93 => lit0t0_349 i | 94 => lit0t0_350 i | 95 => lit0t0_351 i
  | 96 => lit0t0_352 i | 97 => lit0t0_353 i | 98 => lit0t0_354 i | 99 => lit0t0_355 i | 100 => lit0t0_356 i | 101 => lit0t0_357 i | 102 => lit0t0_358 i | 103 => lit0t0_359 i
  | 104 => lit0t0_360 i | 105 => lit0t0_361 i | 106 => lit0t0_362 i | 107 => lit0t0_363 i | 108 => lit0t0_364 i | 109 => lit0t0_365 i | 110 => lit0t0_366 i | 111 => lit0t0_367 i
  | 112 => lit0t0_368 i | 113 => lit0t0_369 i | 114 => lit0t0_370 i | 115 => lit0t0_371 i | 116 => lit0t0_372 i | 117 => lit0t0_373 i | 118 => lit0t0_374 i | 119 => lit0t0_375 i
  | 120 => lit0t0_376 i | 121 => lit0t0_377 i | 122 => lit0t0_378 i | 123 => lit0t0_379 i | 124 => lit0t0_380 i | 125 => lit0t0_381 i | 126 => lit0t0_382 i | 127 => lit0t0_383 i
  | _ => 0#16

/-- Quarter 2 of the table, half row by half row. -/
theorem quarter2 (i : Nat) : lit0t1_2 i = half (256 + i / 128 % 128) i :=
  (show lit0t1_2 i = arms2 (i / 128 % 128) i by sl_kernel_rfl).trans
    (eq_of_lists (fun q => arms2 q i) (fun q => half (256 + q) i) (by sl_kernel_rfl) _ (Nat.mod_lt _ (by decide)))

/-- Half row number `384 + q`, as the table spells it. -/
def arms3 (q i : Nat) : BitVec 16 := match q with
  | 0 => lit0t0_384 i | 1 => lit0t0_385 i | 2 => lit0t0_386 i | 3 => lit0t0_387 i | 4 => lit0t0_388 i | 5 => lit0t0_389 i | 6 => lit0t0_390 i | 7 => lit0t0_391 i
  | 8 => lit0t0_392 i | 9 => lit0t0_393 i | 10 => lit0t0_394 i | 11 => lit0t0_395 i | 12 => lit0t0_396 i | 13 => lit0t0_397 i | 14 => lit0t0_398 i | 15 => lit0t0_399 i
  | 16 => lit0t0_400 i | 17 => lit0t0_401 i | 18 => lit0t0_402 i | 19 => lit0t0_403 i | 20 => lit0t0_404 i | 21 => lit0t0_405 i | 22 => lit0t0_406 i | 23 => lit0t0_407 i
  | 24 => lit0t0_408 i | 25 => lit0t0_409 i | 26 => lit0t0_410 i | 27 => lit0t0_411 i | 28 => lit0t0_412 i | 29 => lit0t0_413 i | 30 => lit0t0_414 i | 31 => lit0t0_415 i
  | 32 => lit0t0_416 i | 33 => lit0t0_417 i | 34 => lit0t0_418 i | 35 => lit0t0_419 i | 36 => lit0t0_420 i | 37 => lit0t0_421 i | 38 => lit0t0_422 i | 39 => lit0t0_423 i
  | 40 => lit0t0_424 i | 41 => lit0t0_425 i | 42 => lit0t0_426 i | 43 => lit0t0_427 i | 44 => lit0t0_428 i | 45 => lit0t0_429 i | 46 => lit0t0_430 i | 47 => lit0t0_431 i
  | 48 => lit0t0_432 i | 49 => lit0t0_433 i | 50 => lit0t0_434 i | 51 => lit0t0_435 i | 52 => lit0t0_436 i | 53 => lit0t0_437 i | 54 => lit0t0_438 i | 55 => lit0t0_439 i
  | 56 => lit0t0_440 i | 57 => lit0t0_441 i | 58 => lit0t0_442 i | 59 => lit0t0_443 i | 60 => lit0t0_444 i | 61 => lit0t0_445 i | 62 => lit0t0_446 i | 63 => lit0t0_447 i
  | 64 => lit0t0_448 i | 65 => lit0t0_449 i | 66 => lit0t0_450 i | 67 => lit0t0_451 i | 68 => lit0t0_452 i | 69 => lit0t0_453 i | 70 => lit0t0_454 i | 71 => lit0t0_455 i
  | 72 => lit0t0_456 i | 73 => lit0t0_457 i | 74 => lit0t0_458 i | 75 => lit0t0_459 i | 76 => lit0t0_460 i | 77 => lit0t0_461 i | 78 => lit0t0_462 i | 79 => lit0t0_463 i
  | 80 => lit0t0_464 i | 81 => lit0t0_465 i | 82 => lit0t0_466 i | 83 => lit0t0_467 i | 84 => lit0t0_468 i | 85 => lit0t0_469 i | 86 => lit0t0_470 i | 87 => lit0t0_471 i
  | 88 => lit0t0_472 i | 89 => lit0t0_473 i | 90 => lit0t0_474 i | 91 => lit0t0_475 i | 92 => lit0t0_476 i | 93 => lit0t0_477 i | 94 => lit0t0_478 i | 95 => lit0t0_479 i
  | 96 => lit0t0_480 i | 97 => lit0t0_481 i | 98 => lit0t0_482 i | 99 => lit0t0_483 i | 100 => lit0t0_484 i | 101 => lit0t0_485 i | 102 => lit0t0_486 i | 103 => lit0t0_487 i
  | 104 => lit0t0_488 i | 105 => lit0t0_489 i | 106 => lit0t0_490 i | 107 => lit0t0_491 i | 108 => lit0t0_492 i | 109 => lit0t0_493 i | 110 => lit0t0_494 i | 111 => lit0t0_495 i
  | 112 => lit0t0_496 i | 113 => lit0t0_497 i | 114 => lit0t0_498 i | 115 => lit0t0_499 i | 116 => lit0t0_500 i | 117 => lit0t0_501 i | 118 => lit0t0_502 i | 119 => lit0t0_503 i
  | 120 => lit0t0_504 i | 121 => lit0t0_505 i | 122 => lit0t0_506 i | 123 => lit0t0_507 i | 124 => lit0t0_508 i | 125 => lit0t0_509 i | 126 => lit0t0_510 i | 127 => lit0t0_511 i
  | _ => 0#16

/-- Quarter 3 of the table, half row by half row. -/
theorem quarter3 (i : Nat) : lit0t1_3 i = half (384 + i / 128 % 128) i :=
  (show lit0t1_3 i = arms3 (i / 128 % 128) i by sl_kernel_rfl).trans
    (eq_of_lists (fun q => arms3 q i) (fun q => half (384 + q) i) (by sl_kernel_rfl) _ (Nat.mod_lt _ (by decide)))

/-- The left-group half row over its first 128 indices. -/
theorem left_at : (List.range 128).map lit0t0_0 = (List.range 128).map fun r => cond (Nat.blt r 64) 0x3C80#16 0#16 := by
  sl_kernel_rfl

/-- The right-group half row over its first 128 indices. -/
theorem right_at : (List.range 128).map lit0t0_128 = (List.range 128).map fun r => cond (Nat.blt r 64) 0#16 0x3C80#16 := by
  sl_kernel_rfl

/-- The empty half row over its first 128 indices. -/
theorem empty_at : (List.range 128).map lit0t0_1 = (List.range 128).map fun _ => 0#16 := by
  sl_kernel_rfl

/-- A half row reads its index modulo 128. -/
theorem half_mod (n i : Nat) : half n i = half n (i % 128) := by
  have h0 : lit0t0_0 i = lit0t0_0 (i % 128) := by unfold lit0t0_0; rw [Nat.mod_mod]
  have h1 : lit0t0_1 i = lit0t0_1 (i % 128) := by unfold lit0t0_1; rw [Nat.mod_mod]
  have h2 : lit0t0_128 i = lit0t0_128 (i % 128) := by unfold lit0t0_128; rw [Nat.mod_mod]
  unfold half
  rw [h0, h1, h2]

/-- A half row at an index below 128: `1/64` in its group's 64 columns, zero elsewhere. -/
theorem half_at (n r : Nat) (hr : r < 128) :
    half n r = if n / 2 / 64 = 2 * (n % 2) + r / 64 then 0x3C80#16 else 0#16 := by
  unfold half
  rw [eq_of_lists lit0t0_0 _ left_at r hr, eq_of_lists lit0t0_128 _ right_at r hr, eq_of_lists lit0t0_1 _ empty_at r hr]
  have hb : r / 64 = 0 ∧ Nat.blt r 64 = true ∨ r / 64 = 1 ∧ Nat.blt r 64 = false := by
    rcases Nat.lt_or_ge r 64 with h | h
    · exact .inl ⟨by omega, by simpa using h⟩
    · exact .inr ⟨by omega, Bool.eq_false_iff.mpr fun hh => absurd (Nat.le_of_ble_eq_true hh) (by omega)⟩
  by_cases e0 : n / 2 / 64 = 2 * (n % 2)
  · rw [show Nat.beq (n / 2 / 64) (2 * (n % 2)) = true by rw [Nat.beq_eq]; exact e0]
    rcases hb with ⟨h, hb⟩ | ⟨h, hb⟩ <;> rw [h, hb] <;> simp [e0]
  · rw [show Nat.beq (n / 2 / 64) (2 * (n % 2)) = false from Bool.eq_false_iff.mpr (by rw [ne_eq, Nat.beq_eq]; exact e0)]
    by_cases e1 : n / 2 / 64 = 2 * (n % 2) + 1
    · rw [show Nat.beq (n / 2 / 64) (2 * (n % 2) + 1) = true by rw [Nat.beq_eq]; exact e1]
      rcases hb with ⟨h, hb⟩ | ⟨h, hb⟩ <;> rw [h, hb] <;> simp [e1]
    · rw [show Nat.beq (n / 2 / 64) (2 * (n % 2) + 1) = false from Bool.eq_false_iff.mpr (by rw [ne_eq, Nat.beq_eq]; exact e1)]
      rcases hb with ⟨h, hb⟩ | ⟨h, hb⟩ <;> rw [h] <;> simp [e0, e1]

/-- The printed table at row `k`, column `j`: `1/64` where both lie in the same group of 64, and zero elsewhere. -/
theorem table_at (k j : Nat) (hk : k < 256) (hj : j < 256) :
    lit0t (k * 256 + j) = if k / 64 = j / 64 then 0x3C80#16 else 0#16 := by
  have hi : k * 256 + j < 65536 := by omega
  have h : lit0t (k * 256 + j) = half ((k * 256 + j) / 128) (k * 256 + j) := by
    have hq : (k * 256 + j) / 16384 = 0 ∨ (k * 256 + j) / 16384 = 1 ∨ (k * 256 + j) / 16384 = 2 ∨
        (k * 256 + j) / 16384 = 3 := by omega
    unfold lit0t
    generalize k * 256 + j = i at *
    rcases hq with h | h | h | h <;> rw [h]
    · exact (quarter0 i).trans (by congr 1; omega)
    · exact (quarter1 i).trans (by congr 1; omega)
    · exact (quarter2 i).trans (by congr 1; omega)
    · exact (quarter3 i).trans (by congr 1; omega)
  rw [h, half_mod, half_at _ _ (Nat.mod_lt _ (by decide))]
  have e1 : (k * 256 + j) / 128 = 2 * k + j / 128 := by omega
  have e2 : (k * 256 + j) % 128 = j % 128 := by omega
  have e3 : (2 * k + j / 128) / 2 = k := by omega
  have e4 : (2 * k + j / 128) % 2 = j / 128 := by omega
  rw [e1, e2, e3, e4, show 2 * (j / 128) + j % 128 / 64 = j / 64 by omega]

end Cert.OutIn.Bd

end
-- ==== Proof.PayMid.lean ====
module

public import proofs.«01_k».proof.Proof.Gen.Kernel3Ideal.Skeleton
public import proofs.«01_k».proof.Proof.ProjRows

@[expose] public section

set_option maxRecDepth 16384

noncomputable section

namespace Cert.OutIn.Pay

open Cert.Kernel3Ideal Cert.Kernel3Ideal.Gen Idealize.ShloMosaic Idealize.ShloMosaic.TcCoe Idealize.SL.Sem

/-- Which of the two streams a grid point reads: the context at its first tile. -/
theorem sel : ∀ n : Fin 17, Scalar.cmpi .slt (Scalar.addi (BitVec.ofNat 32 n.val) 0#32) 1#32 = if n.val = 0 then 1#1 else 0#1 := by
  decide

/-- The stream's row at the first tile is the context's. -/
theorem stream_c (i : grid0.Coords) (hi : (i 1).val = 0) (x0 x1 : Vec Ideal S1x256x1024 .f32) (r : Fin 256) (j : Fin 1024) :
    k0_pay3 (F := Ideal) i x0 x1 (ix2 r j) = x0 (ix3 0 r j) := by
  have h : Scalar.cmpi .slt (Scalar.addi (BitVec.ofNat 32 (i 1).val) 0#32) 1#32 = 1#1 := (sel (i 1)).trans (if_pos hi)
  unfold k0_pay3
  have e : ∀ a b : FVec Ideal S256x1024 .f32, Scalar.select (1#1) a b = a := fun _ _ => rfl
  simp only [h, e]
  pointwise

/-- The stream's row at any later tile is the latents'. -/
theorem stream_x (i : grid0.Coords) (hi : (i 1).val ≠ 0) (x0 x1 : Vec Ideal S1x256x1024 .f32) (r : Fin 256) (j : Fin 1024) :
    k0_pay3 (F := Ideal) i x0 x1 (ix2 r j) = x1 (ix3 0 r j) := by
  have h : Scalar.cmpi .slt (Scalar.addi (BitVec.ofNat 32 (i 1).val) 0#32) 1#32 = 0#1 := (sel (i 1)).trans (if_neg hi)
  unfold k0_pay3
  have e : ∀ a b : FVec Ideal S256x1024 .f32, Scalar.select (0#1) a b = b := fun _ _ => rfl
  simp only [h, e]
  pointwise

variable (a o₁ o₂ : Vec Ideal S1x256x512 .bf16) (gt : Vec Ideal S1x256x1024 .bf16)
  (g g' : Vec Ideal S1x3072 .f32) (u₁ u₂ : Vec Ideal S1x256 .f32) (tb : Vec Ideal S256x256 .bf16)
  (W : Vec Ideal S1x1024x1024 .bf16) (nw : Vec Ideal S1x1024 .f32) (Wi : Vec Ideal S1x1024x4224 .bf16) (w₁ w₂ : Fin 64 → EReal)

/-- The gate's row, the modulation's last third. -/
theorem gate_at (c : Fin 1024) : k0_pay4 (F := Ideal) g (ix2 0 c) = g (ix2 0 ⟨2048 + c, by omega⟩) := by
  pointwise [k0_pay4]

/-- The sum of the two scans. -/
theorem scans_at (r : Fin 256) (l : Fin 512) : k0_pay5 (F := Ideal) o₁ o₂ (ix2 r l) = o₁ (ix3 0 r l) + o₂ (ix3 0 r l) := by
  pointwise [k0_pay5]

theorem weight_at (c : Fin 256) : k0_pay6 (F := Ideal) u₁ (ix2 0 c) = u₁ (ix2 0 c) := by
  pointwise [k0_pay6]

/-- The tile's first scan lanes over the root of their mean square, before the weight. -/
theorem gla_at (r : Fin 256) (c : Fin 256) : k0_pay7 (F := Ideal) tb o₁ o₂ (ix2 r c)
    = (o₁ (ix3 0 r ⟨c, by omega⟩) + o₂ (ix3 0 r ⟨c, by omega⟩)) * Ideal.rsqrt
        (∑ k : Fin 256, (o₁ (ix3 0 r ⟨k, by omega⟩) + o₂ (ix3 0 r ⟨k, by omega⟩)) * (o₁ (ix3 0 r ⟨k, by omega⟩) + o₂ (ix3 0 r ⟨k, by omega⟩)) * tb (ix2 k c)
          + ∑ k : Fin 256, ((o₁ (ix3 0 r ⟨k, by omega⟩) + o₂ (ix3 0 r ⟨k, by omega⟩)) * (o₁ (ix3 0 r ⟨k, by omega⟩) + o₂ (ix3 0 r ⟨k, by omega⟩))
              - (o₁ (ix3 0 r ⟨k, by omega⟩) + o₂ (ix3 0 r ⟨k, by omega⟩)) * (o₁ (ix3 0 r ⟨k, by omega⟩) + o₂ (ix3 0 r ⟨k, by omega⟩))) * tb (ix2 k c)
          + Ideal.ofBits .f32 897988541#32) := by
  pointwise [k0_pay7]
  simp only [scans_at]

/-- The residual rows over whatever the first half of the tile's arithmetic left. -/
theorem mix_of (v6 : FVec Ideal S256x1024 .f32) (v11 : FVec Ideal S1x1024 .f32) (v19 : FVec Ideal S256x512 .f32)
    (v22 : FVec Ideal S1x256 .f32) (v34 : FVec Ideal S256x256 .f32) (r : Fin 256) (c : Fin 1024) :
    k0_pay8 (F := Ideal) v6 v11 tb v19 v22 v34 u₂ a gt W (ix2 r c)
      = Rows.mix (fun k => v6 (ix2 r k)) (fun k => v11 (ix2 0 k)) (fun k =>
          (if h : (k : ℕ) < 512 then a (ix3 0 r ⟨k, h⟩)
           else if h : (k : ℕ) - 512 < 256 then v34 (ix2 r ⟨k - 512, h⟩) * v22 (ix2 0 ⟨k - 512, h⟩)
           else v19 (ix2 r ⟨256 + (k - 512 - 256), by omega⟩) * Ideal.rsqrt
              (∑ j : Fin 256, v19 (ix2 r ⟨256 + j, by omega⟩) * v19 (ix2 r ⟨256 + j, by omega⟩) * tb (ix2 j ⟨k - 512 - 256, by omega⟩)
                + ∑ j : Fin 256, (v19 (ix2 r ⟨256 + j, by omega⟩) * v19 (ix2 r ⟨256 + j, by omega⟩)
                    - v19 (ix2 r ⟨256 + j, by omega⟩) * v19 (ix2 r ⟨256 + j, by omega⟩)) * tb (ix2 j ⟨k - 512 - 256, by omega⟩)
                + Ideal.ofBits .f32 897988541#32) * u₂ (ix2 0 ⟨k - 512 - 256, by omega⟩)) * Rows.silu (gt (ix3 0 r k)))
          (fun k j => W (ix3 0 k j)) c := by
  pointwise [k0_pay8]
  simp only [zero_sub]
  rfl

/-- The tile's residual rows. -/
theorem mix_at (v6 : FVec Ideal S256x1024 .f32) (h6 : ∀ l : Fin 256, u₁ (ix2 0 l) = w₁ ⟨l % 64, by omega⟩)
    (h7 : ∀ l : Fin 256, u₂ (ix2 0 l) = w₂ ⟨l % 64, by omega⟩) (h8 : ∀ k l, tb (ix2 k l) = Rows.avg k l)
    (r : Fin 256) (hf : ∀ l, o₁ (ix3 0 r l) + o₂ (ix3 0 r l) ≠ (⊤ : EReal) ∧ o₁ (ix3 0 r l) + o₂ (ix3 0 r l) ≠ (⊥ : EReal))
    (c : Fin 1024) :
    k0_pay8 (F := Ideal) v6 (k0_pay4 (F := Ideal) g) tb (k0_pay5 (F := Ideal) o₁ o₂) (k0_pay6 (F := Ideal) u₁) (k0_pay7 (F := Ideal) tb o₁ o₂)
        u₂ a gt W (ix2 r c)
      = Rows.mix (fun k => v6 (ix2 r k)) (fun k => g (ix2 0 ⟨2048 + k, by omega⟩))
          (Rows.act (fun l => a (ix3 0 r l)) (fun l => o₁ (ix3 0 r l) + o₂ (ix3 0 r l)) (fun l => gt (ix3 0 r l)) w₁ w₂)
          (fun k j => W (ix3 0 k j)) c := by
  rw [mix_of]
  simp only [gate_at, gla_at, scans_at, weight_at, h8, h7, h6]
  congr 1
  funext k
  unfold Rows.act
  congr 1
  split
  · rfl
  · split
    · exact Rows.headNorm_split (fun l => o₁ (ix3 0 r ⟨l, by omega⟩) + o₂ (ix3 0 r ⟨l, by omega⟩))
        (fun l => hf ⟨l, by omega⟩) w₁ ⟨k - 512, by omega⟩
    · exact Rows.headNorm_split (fun l => o₁ (ix3 0 r ⟨256 + l, by omega⟩) + o₂ (ix3 0 r ⟨256 + l, by omega⟩))
        (fun l => hf ⟨256 + l, by omega⟩) w₂ ⟨k - 512 - 256, by omega⟩

/-- What the tile stores of the stream. -/
theorem store_at (v : FVec Ideal S256x1024 .f32) (r : Fin 256) (c : Fin 1024) : k0_pay9 (F := Ideal) v (ix3 0 r c) = v (ix2 r c) := by
  pointwise [k0_pay9]

/-- The projection of a tile's rows. -/
theorem proj_at (v : FVec Ideal S256x1024 .f32) (r : Fin 256) (j : Fin 4224) :
    k0_pay10 (F := Ideal) v g' nw Wi (ix2 r j)
      = Rows.proj (fun k => v (ix2 r k)) (fun k => nw (ix2 0 k)) (fun k => g' (ix2 0 ⟨1024 + k, by omega⟩))
          (fun k => g' (ix2 0 ⟨k, by omega⟩)) (fun k => Wi (ix3 0 k j)) := by
  pointwise [k0_pay10]
  rfl

/-! What each store of queries, keys and values holds, by entry of the projection. -/

theorem q0 (v : FVec Ideal S256x1024 .f32) (z0 z1 : Fin 1) (r : Fin 256) (d : Fin 128) :
    k0_pay11 (F := Ideal) v g' nw Wi (ix4 z0 z1 r d) = k0_pay10 (F := Ideal) v g' nw Wi (ix2 r ⟨d, by omega⟩) * Rows.qscale := by
  pointwise [k0_pay11]
  rfl

variable (p : FVec Ideal S256x4224 .f32)

theorem q1 (z0 z1 : Fin 1) (r : Fin 256) (d : Fin 128) : k0_pay15 (F := Ideal) p (ix4 z0 z1 r d) = p (ix2 r ⟨128 + d, by omega⟩) * Rows.qscale := by
  pointwise [k0_pay15]
  rfl

theorem q2 (z0 z1 : Fin 1) (r : Fin 256) (d : Fin 128) : k0_pay20 (F := Ideal) p (ix4 z0 z1 r d) = p (ix2 r ⟨256 + d, by omega⟩) * Rows.qscale := by
  pointwise [k0_pay20]
  rfl

theorem q3 (z0 z1 : Fin 1) (r : Fin 256) (d : Fin 128) : k0_pay25 (F := Ideal) p (ix4 z0 z1 r d) = p (ix2 r ⟨384 + d, by omega⟩) * Rows.qscale := by
  pointwise [k0_pay25]
  rfl

theorem k0 (z0 z1 : Fin 1) (r : Fin 256) (d : Fin 128) : k0_pay12 (F := Ideal) p (ix4 z0 z1 r d) = p (ix2 r ⟨512 + d, by omega⟩) := by
  pointwise [k0_pay12]

theorem k1 (z0 z1 : Fin 1) (r : Fin 256) (d : Fin 128) : k0_pay16 (F := Ideal) p (ix4 z0 z1 r d) = p (ix2 r ⟨640 + d, by omega⟩) := by
  pointwise [k0_pay16]

theorem k2 (z0 z1 : Fin 1) (r : Fin 256) (d : Fin 128) : k0_pay21 (F := Ideal) p (ix4 z0 z1 r d) = p (ix2 r ⟨768 + d, by omega⟩) := by
  pointwise [k0_pay21]

theorem k3 (z0 z1 : Fin 1) (r : Fin 256) (d : Fin 128) : k0_pay26 (F := Ideal) p (ix4 z0 z1 r d) = p (ix2 r ⟨896 + d, by omega⟩) := by
  pointwise [k0_pay26]

theorem v00 (z0 z1 z2 : Fin 1) (d r : Fin 128) : k0_pay13 (F := Ideal) p (ix5 z0 z1 z2 d r) = p (ix2 ⟨0 + r, by omega⟩ ⟨1024 + d, by omega⟩) := by
  pointwise [k0_pay13]

theorem v01 (z0 z1 z2 : Fin 1) (d r : Fin 128) : k0_pay14 (F := Ideal) p (ix5 z0 z1 z2 d r) = p (ix2 ⟨128 + r, by omega⟩ ⟨1024 + d, by omega⟩) := by
  pointwise [k0_pay14]

theorem v10 (z0 z1 z2 : Fin 1) (d r : Fin 128) : k0_pay18 (F := Ideal) (k0_pay17 (F := Ideal) p) (ix5 z0 z1 z2 d r) = p (ix2 ⟨0 + r, by omega⟩ ⟨1152 + d, by omega⟩) := by
  pointwise [k0_pay18, k0_pay17]

theorem v11 (z0 z1 z2 : Fin 1) (d r : Fin 128) : k0_pay19 (F := Ideal) p (ix5 z0 z1 z2 d r) = p (ix2 ⟨128 + r, by omega⟩ ⟨1152 + d, by omega⟩) := by
  pointwise [k0_pay19]

theorem v20 (z0 z1 z2 : Fin 1) (d r : Fin 128) : k0_pay22 (F := Ideal) p (ix5 z0 z1 z2 d r) = p (ix2 ⟨0 + r, by omega⟩ ⟨1280 + d, by omega⟩) := by
  pointwise [k0_pay22]

theorem v21 (z0 z1 z2 : Fin 1) (d r : Fin 128) : k0_pay24 (F := Ideal) (k0_pay23 (F := Ideal) p) (ix5 z0 z1 z2 d r) = p (ix2 ⟨128 + r, by omega⟩ ⟨1280 + d, by omega⟩) := by
  pointwise [k0_pay24, k0_pay23]

theorem v30 (z0 z1 z2 : Fin 1) (d r : Fin 128) : k0_pay27 (F := Ideal) p (ix5 z0 z1 z2 d r) = p (ix2 ⟨0 + r, by omega⟩ ⟨1408 + d, by omega⟩) := by
  pointwise [k0_pay27]

theorem v31 (z0 z1 z2 : Fin 1) (d r : Fin 128) : k0_pay28 (F := Ideal) p (ix5 z0 z1 z2 d r) = p (ix2 ⟨128 + r, by omega⟩ ⟨1408 + d, by omega⟩) := by
  pointwise [k0_pay28]

/-- The projection's last columns, rolled by 32 to the left. -/
theorem roll_at (r : Fin 256) (j : Fin 1664) : k0_pay30 (F := Ideal) p (ix2 r j) = p (ix2 r ⟨2560 + (j + 1664 - 1632) % 1664, by omega⟩) := by
  pointwise [k0_pay30, k0_pay29]

/-- The gates. -/
theorem gates_at (r : Fin 256) (j : Fin 1024) :
    k0_pay1 (F := Ideal) (k0_pay30 (F := Ideal) p) (k0_pay31 (F := Ideal) p) (k0_pay32 (F := Ideal) p) (ix3 0 r j) = p (ix2 r ⟨Rows.gateCol j, by omega⟩) := by
  pointwise [k0_pay1, k0_pay31, k0_pay32]
  simp only [roll_at]
  unfold Rows.gateCol
  split_ifs <;> first | omega | (refine congrArg p (congrArg (ix2 r) (Fin.ext ?_)); first | omega | rfl | (dsimp only; omega) | (split_ifs <;> omega) | (dsimp only; split_ifs <;> omega))

/-- The scans' input. -/
theorem scan_at (r : Fin 256) (j : Fin 1664) :
    k0_pay2 (F := Ideal) p (k0_pay29 (F := Ideal) p) (k0_pay30 (F := Ideal) p) (ix3 0 r j) = p (ix2 r ⟨Rows.scanCol j, by omega⟩) := by
  pointwise [k0_pay2, k0_pay29]
  simp only [roll_at]
  unfold Rows.scanCol
  split_ifs <;> first | omega | (refine congrArg p (congrArg (ix2 r) (Fin.ext ?_)); first | omega | rfl | (dsimp only; omega) | (split_ifs <;> omega) | (dsimp only; split_ifs <;> omega))

end Cert.OutIn.Pay

end
-- ==== Proof.RefMid.lean ====
module

public import proofs.«01_k».proof.Proof.Gen.Reference3Ideal.Read
public import proofs.«01_k».proof.Proof.ProjRows

@[expose] public section

set_option maxRecDepth 16384

noncomputable section

namespace Cert.OutIn.Ref

open Idealize.ShloMosaic Idealize.ShloMosaic.TcCoe Idealize.SL.Sem
open Cert.Reference3Ideal Cert.Reference3Ideal.Read

variable (x0 : FVec Ideal S8x256x1024 .f32) (x1 : FVec Ideal S8x4096x1024 .f32) (x2 x3 x4 : FVec Ideal S8x4352x512 .bf16)
  (x5 : FVec Ideal S8x4352x1024 .bf16) (x6 : FVec Ideal S2x16x3072 .f32) (x7 x8 : FVec Ideal S2x64 .f32)
  (x9 : FVec Ideal S2x1024x1024 .f32) (x10 : FVec Ideal S2x1024 .f32) (x11 : FVec Ideal S2x1024x4128 .f32)

/-! The first layer's output projection and the second layer's input projection, written plainly, read at an entry. -/

/-- The gated attention lanes. -/
theorem na_at (b : Fin 8) (t : Fin 4352) (c : Fin 512) : val_main_v7 (F := Ideal) x2 x5 (ix3 b t c)
    = x2 (ix3 b t c) * Rows.silu (x5 (ix3 b t ⟨c, by omega⟩)) := by
  pointwise [val_main_v7, val_main_v4, val_main_v6, val_main_v5, val_main_v3, val_main_call0_v0, val_main_call0_v1, val_main_call0_v2, val_main_call0_v3, val_main_call0_v4, val_main_call0_v5, val_main_call0_cst, val_main_call0_cst_0]
  rfl

/-- The first scan's lanes, normalised per head and gated. -/
theorem gla_at (b : Fin 8) (t : Fin 4352) (c : Fin 256) : val_main_v28 (F := Ideal) x3 x4 x5 x7 (ix3 b t c)
    = Rows.headNorm (fun l => x3 (ix3 b t ⟨l, by omega⟩) + x4 (ix3 b t ⟨l, by omega⟩))
        (fun d => x7 (ix2 0 d)) c * Rows.silu (x5 (ix3 b t ⟨512 + c, by omega⟩)) := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_v3, val_main_v2, val_main_v1, val_main_v0, val_main_call1_v0, val_main_call1_v1, val_main_call1_v2, val_main_call1_v3, val_main_call1_v4, val_main_call1_v5, val_main_call1_cst, val_main_call1_cst_0]
  rfl

/-- The second scan's lanes, normalised per head and gated. -/
theorem hgrn_at (b : Fin 8) (t : Fin 4352) (c : Fin 256) : val_main_v49 (F := Ideal) x3 x4 x5 x8 (ix3 b t c)
    = Rows.headNorm (fun l => x3 (ix3 b t ⟨256 + l, by omega⟩) + x4 (ix3 b t ⟨256 + l, by omega⟩))
        (fun d => x8 (ix2 0 d)) c * Rows.silu (x5 (ix3 b t ⟨768 + c, by omega⟩)) := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_cst_2, val_main_cst_3, val_main_cst_4, val_main_v3, val_main_v2, val_main_v1, val_main_v0, val_main_call2_v0, val_main_call2_v1, val_main_call2_v2, val_main_call2_v3, val_main_call2_v4, val_main_call2_v5, val_main_call2_cst, val_main_call2_cst_0]
  rfl

/-- The gated activations of one token. -/
def acts (b : Fin 8) (t : Fin 4352) : Fin 1024 → EReal :=
  Rows.act (fun l => x2 (ix3 b t l)) (fun l => x3 (ix3 b t l) + x4 (ix3 b t l)) (fun l => x5 (ix3 b t l))
    (fun d => x7 (ix2 0 d)) (fun d => x8 (ix2 0 d))

theorem act_at (b : Fin 8) (t : Fin 4352) (k : Fin 1024) : val_main_v50 (F := Ideal) x2 x3 x4 x5 x7 x8 (ix3 b t k) = acts x2 x3 x4 x5 x7 x8 b t k := by
  pointwise [val_main_v50]
  unfold acts Rows.act
  split
  · exact na_at x2 x5 b t _
  · split
    · rw [gla_at x3 x4 x5 x7 b t]
      congr 3
      blk_ext
    · rw [hgrn_at x3 x4 x5 x8 b t]
      congr 3
      blk_ext

/-- The output projection of one token's activations. -/
theorem out_at (b : Fin 8) (t : Fin 4352) (j : Fin 1024) : val_main_v53 (F := Ideal) x2 x3 x4 x5 x7 x8 x9 (ix3 b t j)
    = ∑ k : Fin 1024, acts x2 x3 x4 x5 x7 x8 b t k * x9 (ix3 0 k j) := by
  pointwise [val_main_v53, val_main_v52, val_main_v51]
  simp only [act_at]

/-- A latent's residual row. -/
theorem mix_x (b : Fin 8) (t : Fin 4096) (j : Fin 1024) : val_main_v60 (F := Ideal) x1 x2 x3 x4 x5 x6 x7 x8 x9 (ix3 b t j)
    = Rows.mix (fun k => x1 (ix3 b t k)) (fun k => x6 (ix3 0 ⟨b, by omega⟩ ⟨2048 + k, by omega⟩)) (acts x2 x3 x4 x5 x7 x8 b ⟨256 + t, by omega⟩)
        (fun k j => x9 (ix3 0 k j)) j := by
  pointwise [val_main_v60, val_main_v59, val_main_v58, val_main_v57, val_main_v56, val_main_v55, val_main_v54]
  simp only [out_at]
  rfl

/-- A context token's residual row. -/
theorem mix_c (b : Fin 8) (t : Fin 256) (j : Fin 1024) : val_main_v67 (F := Ideal) x0 x2 x3 x4 x5 x6 x7 x8 x9 (ix3 b t j)
    = Rows.mix (fun k => x0 (ix3 b t k)) (fun k => x6 (ix3 0 8 ⟨2048 + k, by omega⟩)) (acts x2 x3 x4 x5 x7 x8 b ⟨t, by omega⟩)
        (fun k j => x9 (ix3 0 k j)) j := by
  pointwise [val_main_v67, val_main_v66, val_main_v65, val_main_v64, val_main_v63, val_main_v62, val_main_v61]
  simp only [out_at]
  rfl

/-- A token's residual row: context rows first, then latents. -/
def row (b : Fin 8) (t : Fin 4352) : Fin 1024 → EReal :=
  Rows.mix (fun k => if h : (t : ℕ) < 256 then x0 (ix3 b ⟨t, h⟩ k) else x1 (ix3 b ⟨t - 256, by omega⟩ k))
    (fun k => x6 (ix3 0 ⟨if (t : ℕ) < 256 then 8 else b, by split <;> omega⟩ ⟨2048 + k, by omega⟩)) (acts x2 x3 x4 x5 x7 x8 b t)
    (fun k j => x9 (ix3 0 k j))

theorem row_c (b : Fin 8) (t : Fin 4352) (h : (t : ℕ) < 256) (j : Fin 1024) :
    val_main_v67 (F := Ideal) x0 x2 x3 x4 x5 x6 x7 x8 x9 (ix3 b ⟨t, h⟩ j) = row x0 x1 x2 x3 x4 x5 x6 x7 x8 x9 b t j := by
  unfold row
  simp only [h, if_true, dif_pos]
  exact mix_c x0 x2 x3 x4 x5 x6 x7 x8 x9 b ⟨t, h⟩ j

theorem row_x (b : Fin 8) (t : Fin 4352) (h : ¬ (t : ℕ) < 256) (j : Fin 1024) :
    val_main_v60 (F := Ideal) x1 x2 x3 x4 x5 x6 x7 x8 x9 (ix3 b ⟨t - 256, by omega⟩ j) = row x0 x1 x2 x3 x4 x5 x6 x7 x8 x9 b t j := by
  unfold row
  simp only [h, if_false, dif_neg, not_false_eq_true]
  refine (mix_x x1 x2 x3 x4 x5 x6 x7 x8 x9 b ⟨t - 256, by omega⟩ j).trans ?_
  have e : (⟨256 + (t - 256), by omega⟩ : Fin 4352) = t := Fin.ext (by show 256 + ((t : ℕ) - 256) = t; omega)
  show Rows.mix _ _ (acts x2 x3 x4 x5 x7 x8 b ⟨256 + (t - 256), _⟩) _ j = _
  rw [e]

/-- The stream. -/
theorem stream_at (b : Fin 8) (t : Fin 4352) (j : Fin 1024) : val_main_v120 (F := Ideal) x0 x1 x2 x3 x4 x5 x6 x7 x8 x9 (ix3 b t j) = row x0 x1 x2 x3 x4 x5 x6 x7 x8 x9 b t j := by
  pointwise [val_main_v120]
  by_cases h : (t : ℕ) < 256
  · simp only [h, dif_pos]
    exact row_c x0 x1 x2 x3 x4 x5 x6 x7 x8 x9 b t h j
  · simp only [h, dif_neg, not_false_eq_true]
    exact row_x x0 x1 x2 x3 x4 x5 x6 x7 x8 x9 b t h j

/-- A context row, scaled and shifted for the second layer. -/
theorem hidden_c (b : Fin 8) (t : Fin 256) (k : Fin 1024) : val_main_v119 (F := Ideal) x0 x2 x3 x4 x5 x6 x7 x8 x9 x10 (ix3 b t k)
    = Rows.hid (fun k => val_main_v67 (F := Ideal) x0 x2 x3 x4 x5 x6 x7 x8 x9 (ix3 b t k)) (fun k => x10 (ix2 1 k)) (fun k => x6 (ix3 1 8 ⟨1024 + k, by omega⟩))
        (fun k => x6 (ix3 1 8 ⟨k, by omega⟩)) k := by
  pointwise [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_cst_9, val_main_cst_10, val_main_cst_11, val_main_cst_12, val_main_v79, val_main_v78, val_main_v77, val_main_v76, val_main_v71, val_main_v70, val_main_v69, val_main_v68]
  rfl

/-- A latent row, scaled and shifted for the second layer. -/
theorem hidden_x (b : Fin 8) (t : Fin 4096) (k : Fin 1024) : val_main_v98 (F := Ideal) x1 x2 x3 x4 x5 x6 x7 x8 x9 x10 (ix3 b t k)
    = Rows.hid (fun k => val_main_v60 (F := Ideal) x1 x2 x3 x4 x5 x6 x7 x8 x9 (ix3 b t k)) (fun k => x10 (ix2 1 k)) (fun k => x6 (ix3 1 ⟨b, by omega⟩ ⟨1024 + k, by omega⟩))
        (fun k => x6 (ix3 1 ⟨b, by omega⟩ ⟨k, by omega⟩)) k := by
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_cst_5, val_main_cst_6, val_main_cst_7, val_main_cst_8, val_main_v75, val_main_v74, val_main_v73, val_main_v72, val_main_v71, val_main_v70, val_main_v69, val_main_v68]
  rfl

/-- The projected columns of a context row. -/
theorem proj_c (b : Fin 8) (t : Fin 256) (j : Fin 4128) : val_main_v123 (F := Ideal) x0 x2 x3 x4 x5 x6 x7 x8 x9 x10 x11 (ix3 b t j)
    = Rows.proj (fun k => val_main_v67 (F := Ideal) x0 x2 x3 x4 x5 x6 x7 x8 x9 (ix3 b t k)) (fun k => x10 (ix2 1 k)) (fun k => x6 (ix3 1 8 ⟨1024 + k, by omega⟩))
        (fun k => x6 (ix3 1 8 ⟨k, by omega⟩)) (fun k => x11 (ix3 1 k j)) := by
  pointwise [val_main_v123, val_main_v122, val_main_v121]
  simp only [hidden_c]
  rfl

/-- The projected columns of a latent row. -/
theorem proj_x (b : Fin 8) (t : Fin 4096) (j : Fin 4128) : val_main_v124 (F := Ideal) x1 x2 x3 x4 x5 x6 x7 x8 x9 x10 x11 (ix3 b t j)
    = Rows.proj (fun k => val_main_v60 (F := Ideal) x1 x2 x3 x4 x5 x6 x7 x8 x9 (ix3 b t k)) (fun k => x10 (ix2 1 k)) (fun k => x6 (ix3 1 ⟨b, by omega⟩ ⟨1024 + k, by omega⟩))
        (fun k => x6 (ix3 1 ⟨b, by omega⟩ ⟨k, by omega⟩)) (fun k => x11 (ix3 1 k j)) := by
  pointwise [val_main_v124, val_main_v122, val_main_v121]
  simp only [hidden_x]
  rfl

/-- The projected columns of a token. -/
def cols (b : Fin 8) (t : Fin 4352) (j : Fin 4128) : EReal :=
  Rows.proj (row x0 x1 x2 x3 x4 x5 x6 x7 x8 x9 b t) (fun k => x10 (ix2 1 k))
    (fun k => x6 (ix3 1 ⟨if (t : ℕ) < 256 then 8 else b, by split <;> omega⟩ ⟨1024 + k, by omega⟩))
    (fun k => x6 (ix3 1 ⟨if (t : ℕ) < 256 then 8 else b, by split <;> omega⟩ ⟨k, by omega⟩)) (fun k => x11 (ix3 1 k j))

theorem cols_at (b : Fin 8) (t : Fin 4352) (j : Fin 4128) : val_main_v125 (F := Ideal) x0 x1 x2 x3 x4 x5 x6 x7 x8 x9 x10 x11 (ix3 b t j) = cols x0 x1 x2 x3 x4 x5 x6 x7 x8 x9 x10 x11 b t j := by
  pointwise [val_main_v125]
  unfold cols
  by_cases h : (t : ℕ) < 256
  · simp only [h, if_true, dif_pos]
    refine (proj_c x0 x2 x3 x4 x5 x6 x7 x8 x9 x10 x11 b ⟨t, h⟩ j).trans ?_
    rw [funext (row_c x0 x1 x2 x3 x4 x5 x6 x7 x8 x9 b t h)]
    rfl
  · simp only [h, if_false, dif_neg, not_false_eq_true]
    refine (proj_x x1 x2 x3 x4 x5 x6 x7 x8 x9 x10 x11 b ⟨t - 256, by omega⟩ j).trans ?_
    rw [funext (row_x x0 x1 x2 x3 x4 x5 x6 x7 x8 x9 b t h)]

/-- The queries, by pairs of heads and scaled. -/
theorem q_at (b : Fin 8) (h : Fin 4) (t : Fin 4352) (d : Fin 128) : val_main_v151 (F := Ideal) x0 x1 x2 x3 x4 x5 x6 x7 x8 x9 x10 x11 (ix4 b h t d)
    = cols x0 x1 x2 x3 x4 x5 x6 x7 x8 x9 x10 x11 b t ⟨h * 128 + d, by omega⟩ * Rows.qscale := by
  pointwise [val_main_v151, val_main_v143, val_main_v142, val_main_v141, val_main_v126, val_main_v140, val_main_cst_13]
  rw [cols_at]
  rfl

/-- The keys' and the values' columns of the projection. -/
theorem kcol_at (b : Fin 8) (t : Fin 4352) (j : Fin 512) : val_main_v127 (F := Ideal) x0 x1 x2 x3 x4 x5 x6 x7 x8 x9 x10 x11 (ix3 b t j)
    = val_main_v125 (F := Ideal) x0 x1 x2 x3 x4 x5 x6 x7 x8 x9 x10 x11 (ix3 b t ⟨512 + j, by omega⟩) := by
  pointwise [val_main_v127]

theorem vcol_at (b : Fin 8) (t : Fin 4352) (j : Fin 512) : val_main_v128 (F := Ideal) x0 x1 x2 x3 x4 x5 x6 x7 x8 x9 x10 x11 (ix3 b t j)
    = val_main_v125 (F := Ideal) x0 x1 x2 x3 x4 x5 x6 x7 x8 x9 x10 x11 (ix3 b t ⟨1024 + j, by omega⟩) := by
  pointwise [val_main_v128]

/-- The keys' columns, by pairs of heads. -/
theorem kpair_at (b : Fin 8) (h : Fin 4) (t : Fin 4352) (d : Fin 128) : val_main_v145 (F := Ideal) x0 x1 x2 x3 x4 x5 x6 x7 x8 x9 x10 x11 (ix4 b h t d)
    = val_main_v127 (F := Ideal) x0 x1 x2 x3 x4 x5 x6 x7 x8 x9 x10 x11 (ix3 b t ⟨h * 128 + d, by omega⟩) := by
  pointwise [val_main_v145, val_main_v144]

/-- The values' columns, in transposed tiles. -/
theorem vtile_at (b : Fin 8) (h : Fin 4) (s : Fin 34) (d r : Fin 128) : val_main_v147 (F := Ideal) x0 x1 x2 x3 x4 x5 x6 x7 x8 x9 x10 x11 (ix5 b h s d r)
    = val_main_v128 (F := Ideal) x0 x1 x2 x3 x4 x5 x6 x7 x8 x9 x10 x11 (ix3 b ⟨s * 128 + r, by omega⟩ ⟨h * 128 + d, by omega⟩) := by
  pointwise [val_main_v147, val_main_v146]

/-- Narrowing changes no extended real. -/
theorem down (y : Ideal .f32) : (FloatOps.truncf (F := Ideal) (φ := .f32) .bf16 Gen.bitsLt_bf16_f32 y) = y := rfl

/-- The keys, by pairs of heads. -/
theorem k_at (b : Fin 8) (h : Fin 4) (t : Fin 4352) (d : Fin 128) : val_main_v152 (F := Ideal) x0 x1 x2 x3 x4 x5 x6 x7 x8 x9 x10 x11 (ix4 b h t d)
    = cols x0 x1 x2 x3 x4 x5 x6 x7 x8 x9 x10 x11 b t ⟨512 + (h * 128 + d), by omega⟩ := by
  have e := (kpair_at x0 x1 x2 x3 x4 x5 x6 x7 x8 x9 x10 x11 b h t d).trans ((kcol_at x0 x1 x2 x3 x4 x5 x6 x7 x8 x9 x10 x11 b t ⟨h * 128 + d, by omega⟩).trans
    (cols_at x0 x1 x2 x3 x4 x5 x6 x7 x8 x9 x10 x11 b t ⟨512 + (h * 128 + d), by omega⟩))
  generalize cols x0 x1 x2 x3 x4 x5 x6 x7 x8 x9 x10 x11 b t ⟨512 + (h * 128 + d), by omega⟩ = z at e ⊢
  refine Eq.trans ?_ e
  rw [val_main_v152_apply]
  exact down _

/-- The values, in transposed tiles. -/
theorem v_at (b : Fin 8) (h : Fin 4) (s : Fin 34) (d r : Fin 128) : val_main_v153 (F := Ideal) x0 x1 x2 x3 x4 x5 x6 x7 x8 x9 x10 x11 (ix5 b h s d r)
    = cols x0 x1 x2 x3 x4 x5 x6 x7 x8 x9 x10 x11 b ⟨s * 128 + r, by omega⟩ ⟨1024 + (h * 128 + d), by omega⟩ := by
  have e := (vtile_at x0 x1 x2 x3 x4 x5 x6 x7 x8 x9 x10 x11 b h s d r).trans ((vcol_at x0 x1 x2 x3 x4 x5 x6 x7 x8 x9 x10 x11 b ⟨s * 128 + r, by omega⟩ ⟨h * 128 + d, by omega⟩).trans
    (cols_at x0 x1 x2 x3 x4 x5 x6 x7 x8 x9 x10 x11 b ⟨s * 128 + r, by omega⟩ ⟨1024 + (h * 128 + d), by omega⟩))
  generalize cols x0 x1 x2 x3 x4 x5 x6 x7 x8 x9 x10 x11 b ⟨s * 128 + r, by omega⟩ ⟨1024 + (h * 128 + d), by omega⟩ = z at e ⊢
  refine Eq.trans ?_ e
  rw [val_main_v153_apply]
  exact down _

/-- The gates. -/
theorem gates_at (b : Fin 8) (t : Fin 4352) (j : Fin 1024) : val_main_v154 (F := Ideal) x0 x1 x2 x3 x4 x5 x6 x7 x8 x9 x10 x11 (ix3 b t j)
    = cols x0 x1 x2 x3 x4 x5 x6 x7 x8 x9 x10 x11 b t (Rows.gateCol j) := by
  pointwise [val_main_v154, val_main_v148, val_main_v129, val_main_v134, val_main_v139]
  simp only [cols_at]
  unfold Rows.gateCol
  split_ifs <;> first | omega | (refine congrArg _ (Fin.ext ?_); first | rfl | omega | (split_ifs <;> omega) | (dsimp only; split_ifs <;> omega))

/-- The scans' inputs. -/
theorem scan_at (b : Fin 8) (t : Fin 4352) (j : Fin 1664) : val_main_v150 (F := Ideal) x0 x1 x2 x3 x4 x5 x6 x7 x8 x9 x10 x11 (ix3 b t j)
    = cols x0 x1 x2 x3 x4 x5 x6 x7 x8 x9 x10 x11 b t (Rows.scanCol j) := by
  pointwise [val_main_v150, val_main_v132, val_main_v130, val_main_v131, val_main_v133, val_main_v149, val_main_v135, val_main_v136, val_main_v137, val_main_v138, val_main_v134]
  simp only [cols_at]
  unfold Rows.scanCol
  split_ifs <;> first | omega | (refine congrArg _ (Fin.ext ?_); first | rfl | omega | (split_ifs <;> omega) | (dsimp only; split_ifs <;> omega))

end Cert.OutIn.Ref

end
-- ==== Proof.MidValue.lean ====
module

public import proofs.«01_k».proof.Pre_mid_scans_finite
public import proofs.«01_k».proof.Proof.Gen.Kernel3Ideal.Value
public import proofs.«01_k».proof.Proof.BdTable3
public import proofs.«01_k».proof.Proof.PayMid
public import proofs.«01_k».proof.Proof.RefMid

@[expose] public section

set_option maxRecDepth 16384

noncomputable section

namespace Cert.OutIn

open Cert.Kernel3Ideal Cert.Kernel3Ideal.Gen Idealize.ShloMosaic Idealize.ShloMosaic.TcCoe Idealize.SL.Sem
open Idealize.ShloMosaic.Pipeline (Dat)

/-! The first layer's output projection with the second layer's input projection, as arrays: every block of the call's
    grid, read from the arrays the call is given, is the same rows of the plain formula. -/

/-- The side conditions of the precondition's printed function. -/
theorem scans_facts : Cert.Pre_mid_scans_finite.Facts where
  bitsLt_bf16_f32 := by decide
  bcast_S_S8x4352x512 := by decide

/-- The word `0x7F800000` is plus infinity. -/
theorem ofBits_inf : (FloatOps.ofBits .f32 0x7F800000#32 : Ideal .f32) = (⊤ : EReal) := by
  simp [FloatOps.ofBits, Ideal.ofBits, Ideal.ieee]

/-- What the precondition says of one entry: the sum of the two scans is a real number there. -/
theorem scans_real (h : Cert.Pre_mid_scans_finite.Facts) (x0 : FVec Ideal Cert.Pre_mid_scans_finite.S8x256x1024 .f32)
    (x1 : FVec Ideal Cert.Pre_mid_scans_finite.S8x4096x1024 .f32) (x2 x3 x4 : FVec Ideal Cert.Pre_mid_scans_finite.S8x4352x512 .bf16)
    (x5 : FVec Ideal Cert.Pre_mid_scans_finite.S8x4352x1024 .bf16) (x6 : FVec Ideal Cert.Pre_mid_scans_finite.S2x16x3072 .f32)
    (x7 x8 : FVec Ideal Cert.Pre_mid_scans_finite.S2x64 .f32) (x9 : FVec Ideal Cert.Pre_mid_scans_finite.S2x1024x1024 .f32)
    (x10 : FVec Ideal Cert.Pre_mid_scans_finite.S2x1024 .f32) (x11 : FVec Ideal Cert.Pre_mid_scans_finite.S2x1024x4128 .f32)
    (hp : Cert.Pre_mid_scans_finite.fn (F := Ideal) x0 x1 x2 x3 x4 x5 x6 x7 x8 x9 x10 x11 = fun _ => 1#1)
    (i : Cert.Pre_mid_scans_finite.S8x4352x512.Idx) :
    (x3 i : EReal) + x4 i ≠ ⊤ ∧ (x3 i : EReal) + x4 i ≠ ⊥ := by
  have h1 := congrFun hp i
  have h2 : Ideal.cmp .olt (max ((x3 i : EReal) + x4 i) (-((x3 i : EReal) + x4 i)))
      (FloatOps.ofBits .f32 0x7F800000#32 : Ideal .f32) = 1#1 := h1
  rw [ofBits_inf] at h2
  have h3 : max ((x3 i : EReal) + x4 i) (-((x3 i : EReal) + x4 i)) < ⊤ := by
    by_contra hn
    have h4 : Ideal.cmp .olt (max ((x3 i : EReal) + x4 i) (-((x3 i : EReal) + x4 i))) ⊤
        = BitVec.ofBool (decide (max ((x3 i : EReal) + x4 i) (-((x3 i : EReal) + x4 i)) < ⊤)) := rfl
    rw [h4, decide_eq_false hn] at h2
    exact absurd h2 (by decide)
  generalize (x3 i : EReal) + x4 i = s at h3
  constructor
  · rintro rfl; simp at h3
  · rintro rfl; simp at h3

variable (m : (ℓ : Loc nD τ sig) → Buf (Elt Ideal) ℓ)

/-- The block index of each input window at each point, the row of the modulation tables, and the tile's number. -/
theorem idx : ∀ t : Fin cfg0.N, win0_0.index t = ![t.val / 17, 0, 0] ∧ win0_1.index t = ![t.val / 17, t.val % 17 - 1, 0]
    ∧ win0_2.index t = ![t.val / 17, t.val % 17, 0] ∧ win0_3.index t = ![t.val / 17, t.val % 17, 0]
    ∧ win0_4.index t = ![t.val / 17, t.val % 17, 0] ∧ win0_5.index t = ![t.val / 17, t.val % 17, 0]
    ∧ win0_6.index t = ![0, 0] ∧ win0_7.index t = ![0, 0] ∧ win0_8.index t = ![0, 0] ∧ win0_9.index t = ![0, 0]
    ∧ win0_10.index t = ![0, 0, 0] ∧ win0_11.index t = ![0, 0] ∧ win0_12.index t = ![0, 0] ∧ win0_13.index t = ![1, 0, 0]
    ∧ k0_off1 (grid0.coords t) = ![if t.val % 17 = 0 then 8 else t.val / 17, 0] ∧ ((grid0.coords t) 1).val = t.val % 17 :=
  (by decide +kernel : ∀ t : Fin grid0.N, _)

/-- The block index of each output window at each point. -/
theorem odx : ∀ t : Fin cfg0.N, win0_14.index t = ![t.val / 17, t.val % 17, 0]
    ∧ win0_15.index t = ![t.val / 17, 0, t.val % 17, 0] ∧ win0_16.index t = ![t.val / 17, 0, t.val % 17, 0]
    ∧ win0_17.index t = ![t.val / 17, 0, t.val % 17, 0, 0]
    ∧ win0_18.index t = ![t.val / 17, t.val % 17, 0] ∧ win0_19.index t = ![t.val / 17, t.val % 17, 0] :=
  (by decide +kernel : ∀ t : Fin grid0.N, _)

/-- An entry of a block of the context. -/
theorem b0 (c : Dev nD) (t : Fin cfg0.N) (b : Fin 8) (hb : b = t.val / 17) (r : Fin 256) (k : Fin 1024) :
    iblk m c 0 t (ix3 0 r k) = m ((c : Thread nD τ).loc main_arg0) (ix3 b r k) := by
  obtain ⟨i0, i1, i2, i3, i4, i5, i6, i7, i8, i9, i10, i11, i12, i13, o, n⟩ := idx t
  blk_point [iblk, V, i0]

/-- An entry of a block of the latents, one tile back. -/
theorem b1 (c : Dev nD) (t : Fin cfg0.N) (b : Fin 8) (s : Fin 17) (hb : b = t.val / 17) (hs : s = t.val % 17) (r : Fin 256) (k : Fin 1024) :
    iblk m c 1 t (ix3 0 r k) = m ((c : Thread nD τ).loc main_arg1) (ix3 b ⟨(s - 1) * 256 + r, by omega⟩ k) := by
  obtain ⟨i0, i1, i2, i3, i4, i5, i6, i7, i8, i9, i10, i11, i12, i13, o, n⟩ := idx t
  blk_point [iblk, V, i1]

/-- An entry of a block of the neighbourhood attention's output. -/
theorem b2 (c : Dev nD) (t : Fin cfg0.N) (b : Fin 8) (s : Fin 17) (hb : b = t.val / 17) (hs : s = t.val % 17) (r : Fin 256) (k : Fin 512) :
    iblk m c 2 t (ix3 0 r k) = m ((c : Thread nD τ).loc main_arg2) (ix3 b ⟨s * 256 + r, by omega⟩ k) := by
  obtain ⟨i0, i1, i2, i3, i4, i5, i6, i7, i8, i9, i10, i11, i12, i13, o, n⟩ := idx t
  blk_point [iblk, V, i2]

/-- An entry of a block of the forward scan. -/
theorem b3 (c : Dev nD) (t : Fin cfg0.N) (b : Fin 8) (s : Fin 17) (hb : b = t.val / 17) (hs : s = t.val % 17) (r : Fin 256) (k : Fin 512) :
    iblk m c 3 t (ix3 0 r k) = m ((c : Thread nD τ).loc main_arg3) (ix3 b ⟨s * 256 + r, by omega⟩ k) := by
  obtain ⟨i0, i1, i2, i3, i4, i5, i6, i7, i8, i9, i10, i11, i12, i13, o, n⟩ := idx t
  blk_point [iblk, V, i3]

/-- An entry of a block of the backward scan. -/
theorem b4 (c : Dev nD) (t : Fin cfg0.N) (b : Fin 8) (s : Fin 17) (hb : b = t.val / 17) (hs : s = t.val % 17) (r : Fin 256) (k : Fin 512) :
    iblk m c 4 t (ix3 0 r k) = m ((c : Thread nD τ).loc main_arg4) (ix3 b ⟨s * 256 + r, by omega⟩ k) := by
  obtain ⟨i0, i1, i2, i3, i4, i5, i6, i7, i8, i9, i10, i11, i12, i13, o, n⟩ := idx t
  blk_point [iblk, V, i4]

/-- An entry of a block of the gates. -/
theorem b5 (c : Dev nD) (t : Fin cfg0.N) (b : Fin 8) (s : Fin 17) (hb : b = t.val / 17) (hs : s = t.val % 17) (r : Fin 256) (k : Fin 1024) :
    iblk m c 5 t (ix3 0 r k) = m ((c : Thread nD τ).loc main_arg5) (ix3 b ⟨s * 256 + r, by omega⟩ k) := by
  obtain ⟨i0, i1, i2, i3, i4, i5, i6, i7, i8, i9, i10, i11, i12, i13, o, n⟩ := idx t
  blk_point [iblk, V, i5]

/-- The first layer's modulation rows, taken out of the two layers' array. -/
theorem mod0_at (x : Vec Ideal S2x16x3072 .f32) (b : Fin 16) (k : Fin 3072) :
    shapeCast S16x3072 (extractStridedSlice S1x16x3072 ![0, 0, 0] x slices_S2x16x3072_S1x16x3072_0_0_0) shapeCasts_S1x16x3072_S16x3072 (ix2 b k)
      = x (ix3 0 b k) := by
  pointwise

/-- The row of that table the call loads: the context's row for the first tile, else the batch element's. -/
theorem b6 (c : Dev nD) (t : Fin cfg0.N) (k : Fin 3072) (b : Fin 16) (hb : b = if t.val % 17 = 0 then 8 else t.val / 17) :
    (View.ld (iblk m c 6 t) (Rect.unit (k0_off1 (grid0.coords t)) ![1, 3072] (k0_off1_inb (grid0.coords t))) : Vec Ideal S1x3072 .f32) (ix2 0 k)
      = m ((c : Thread nD τ).loc main_arg6) (ix3 0 b k) := by
  obtain ⟨i0, i1, i2, i3, i4, i5, i6, i7, i8, i9, i10, i11, i12, i13, o, n⟩ := idx t
  have h1 : ∀ x : Vec Ideal S16x3072 .f32,
      (View.ld x (Rect.unit (s := S16x3072) (k0_off1 (grid0.coords t)) ![1, 3072] (k0_off1_inb (grid0.coords t))) : Vec Ideal S1x3072 .f32) (ix2 0 k)
        = x (ix2 b k) := by
    intro x
    refine congrArg x (funext fun a => Fin.ext ?_)
    refine (ValueKit.rect_emb_unit_val _ _ _ _ a).trans ?_
    rw [congrFun o a]
    fin_cases a
    · simp [ix2, hb]
    · simp [ix2]
  refine (h1 (iblk m c 6 t)).trans ?_
  have hE : (win0_6.blk t).view.emb (ix2 b k) = ix2 b k := by blk_ext [i6]
  have hc : iblk m c 6 t (ix2 b k) = V m c main_v16 ((win0_6.blk t).view.emb (ix2 b k)) := rfl
  rw [hc, hE]
  have hv : V m c main_v16 = shapeCast S16x3072
      (extractStridedSlice S1x16x3072 ![0, 0, 0] (m (c, Proc.tc.devRef main_arg6)) slices_S2x16x3072_S1x16x3072_0_0_0)
      shapeCasts_S1x16x3072_S16x3072 := by
    unfold V; simp only [hostOps0, hostOps0_1, hostOps0_2, List.flatten_cons, List.flatten_nil, List.append_nil, List.cons_append, List.nil_append]; after_results; rfl
  rw [hv, mod0_at]

/-- The second layer's modulation rows, taken out of the two layers' array. -/
theorem mod1_at (x : Vec Ideal S2x16x3072 .f32) (b : Fin 16) (k : Fin 3072) :
    shapeCast S16x3072 (extractStridedSlice S1x16x3072 ![1, 0, 0] x slices_S2x16x3072_S1x16x3072_1_0_0) shapeCasts_S1x16x3072_S16x3072 (ix2 b k)
      = x (ix3 1 b k) := by
  pointwise

/-- The row of that table the call loads: the context's row for the first tile, else the batch element's. -/
theorem b11 (c : Dev nD) (t : Fin cfg0.N) (k : Fin 3072) (b : Fin 16) (hb : b = if t.val % 17 = 0 then 8 else t.val / 17) :
    (View.ld (iblk m c 11 t) (Rect.unit (k0_off1 (grid0.coords t)) ![1, 3072] (k0_off1_inb (grid0.coords t))) : Vec Ideal S1x3072 .f32) (ix2 0 k)
      = m ((c : Thread nD τ).loc main_arg6) (ix3 1 b k) := by
  obtain ⟨i0, i1, i2, i3, i4, i5, i6, i7, i8, i9, i10, i11, i12, i13, o, n⟩ := idx t
  have h1 : ∀ x : Vec Ideal S16x3072 .f32,
      (View.ld x (Rect.unit (s := S16x3072) (k0_off1 (grid0.coords t)) ![1, 3072] (k0_off1_inb (grid0.coords t))) : Vec Ideal S1x3072 .f32) (ix2 0 k)
        = x (ix2 b k) := by
    intro x
    refine congrArg x (funext fun a => Fin.ext ?_)
    refine (ValueKit.rect_emb_unit_val _ _ _ _ a).trans ?_
    rw [congrFun o a]
    fin_cases a
    · simp [ix2, hb]
    · simp [ix2]
  refine (h1 (iblk m c 11 t)).trans ?_
  have hE : (win0_11.blk t).view.emb (ix2 b k) = ix2 b k := by blk_ext [i11]
  have hc : iblk m c 11 t (ix2 b k) = V m c main_v18 ((win0_11.blk t).view.emb (ix2 b k)) := rfl
  rw [hc, hE]
  have hv : V m c main_v18 = shapeCast S16x3072
      (extractStridedSlice S1x16x3072 ![1, 0, 0] (m (c, Proc.tc.devRef main_arg6)) slices_S2x16x3072_S1x16x3072_1_0_0)
      shapeCasts_S1x16x3072_S16x3072 := by
    unfold V; simp only [hostOps0, hostOps0_1, hostOps0_2, List.flatten_cons, List.flatten_nil, List.append_nil, List.cons_append, List.nil_append]; after_results; rfl
  rw [hv, mod1_at]

/-- The first layer's 64 weights, repeated for each of the four heads. -/
theorem tiled_at (x : Vec Ideal S2x64 .f32) (k : Fin 256) :
    shapeCast S1x256 (shapeCast S256 (broadcastInDim S4x64 ![0, 1] bcast_S1x64_S4x64_0_1 (shapeCast S1x64 (shapeCast S64 (extractStridedSlice S1x64 ![0, 0] x slices_S2x64_S1x64_0_0)
      shapeCasts_S1x64_S64) shapeCasts_S64_S1x64)) shapeCasts_S4x64_S256) shapeCasts_S256_S1x256 (ix2 0 k)
      = x (ix2 0 ⟨k % 64, by omega⟩) := by
  pointwise

/-- The tiled weight of the gated linear attention repeats the first layer's 64 weights. -/
theorem b7 (c : Dev nD) (t : Fin cfg0.N) (k : Fin 256) : iblk m c 7 t (ix2 0 k) = m ((c : Thread nD τ).loc main_arg7) (ix2 0 ⟨k % 64, by omega⟩) := by
  obtain ⟨i0, i1, i2, i3, i4, i5, i6, i7, i8, i9, i10, i11, i12, i13, o, n⟩ := idx t
  have hE : (win0_7.blk t).view.emb (ix2 0 k) = ix2 0 k := by blk_ext [i7]
  have hc : iblk m c 7 t (ix2 0 k) = V m c main_v8 ((win0_7.blk t).view.emb (ix2 0 k)) := rfl
  rw [hc, hE]
  have hv : V m c main_v8 = shapeCast S1x256 (shapeCast S256 (broadcastInDim S4x64 ![0, 1] bcast_S1x64_S4x64_0_1 (shapeCast S1x64 (shapeCast S64 (extractStridedSlice S1x64 ![0, 0] (m (c, Proc.tc.devRef main_arg7)) slices_S2x64_S1x64_0_0)
      shapeCasts_S1x64_S64) shapeCasts_S64_S1x64)) shapeCasts_S4x64_S256) shapeCasts_S256_S1x256 := by
    unfold V; simp only [hostOps0, hostOps0_1, hostOps0_2, List.flatten_cons, List.flatten_nil, List.append_nil, List.cons_append, List.nil_append]; after_results; rfl
  rw [hv, tiled_at]

/-- The tiled weight of the gated recurrence repeats the first layer's 64 weights. -/
theorem b8 (c : Dev nD) (t : Fin cfg0.N) (k : Fin 256) : iblk m c 8 t (ix2 0 k) = m ((c : Thread nD τ).loc main_arg8) (ix2 0 ⟨k % 64, by omega⟩) := by
  obtain ⟨i0, i1, i2, i3, i4, i5, i6, i7, i8, i9, i10, i11, i12, i13, o, n⟩ := idx t
  have hE : (win0_8.blk t).view.emb (ix2 0 k) = ix2 0 k := by blk_ext [i8]
  have hc : iblk m c 8 t (ix2 0 k) = V m c main_v14 ((win0_8.blk t).view.emb (ix2 0 k)) := rfl
  rw [hc, hE]
  have hv : V m c main_v14 = shapeCast S1x256 (shapeCast S256 (broadcastInDim S4x64 ![0, 1] bcast_S1x64_S4x64_0_1 (shapeCast S1x64 (shapeCast S64 (extractStridedSlice S1x64 ![0, 0] (m (c, Proc.tc.devRef main_arg8)) slices_S2x64_S1x64_0_0)
      shapeCasts_S1x64_S64) shapeCasts_S64_S1x64)) shapeCasts_S4x64_S256) shapeCasts_S256_S1x256 := by
    unfold V; simp only [hostOps0, hostOps0_1, hostOps0_2, List.flatten_cons, List.flatten_nil, List.append_nil, List.cons_append, List.nil_append]; after_results; rfl
  rw [hv, tiled_at]

/-- The constant table's entry: one over 64 inside a head's square, zero outside. -/
theorem b9 (c : Dev nD) (t : Fin cfg0.N) (k l : Fin 256) : iblk m c 9 t (ix2 k l) = Rows.avg k l := by
  obtain ⟨i0, i1, i2, i3, i4, i5, i6, i7, i8, i9, i10, i11, i12, i13, o, n⟩ := idx t
  have h : iblk m c 9 t (ix2 k l) = (FloatOps.ofBits .bf16 (lit0t (k * 256 + l)) : Ideal .bf16) := by
    have hE : (win0_9.blk t).view.emb (ix2 k l) = ix2 k l := by blk_ext [i9]
    have hc : iblk m c 9 t (ix2 k l) = V m c main_cst ((win0_9.blk t).view.emb (ix2 k l)) := rfl
    rw [hc, hE]
    have hv : V m c main_cst = fun i => (FloatOps.ofBits .bf16 (lit0 (S256x256.rowMajor i)) : Ideal .bf16) := by
      unfold V; simp only [hostOps0, hostOps0_1, hostOps0_2, List.flatten_cons, List.flatten_nil, List.append_nil, List.cons_append, List.nil_append]; after_results; rfl
    rw [hv]
    have hr : ((S256x256.rowMajor (ix2 k l) : Fin _) : Nat) = k * 256 + l := by
      exact (Shape.rowMajor_val_two _).trans (by simp [ix2])
    have hl : ∀ n : Fin S256x256.numel, lit0 n = lit0t n := fun _ => rfl
    show (FloatOps.ofBits .bf16 (lit0 (S256x256.rowMajor (ix2 k l))) : Ideal .bf16) = _
    rw [hl, hr]
  rw [h, Bd.table_at k l k.isLt l.isLt]
  unfold Rows.avg
  split
  · rfl
  · simp [FloatOps.ofBits, Ideal.ofBits, Ideal.ieee]

/-- The output weights are the first layer's, entry for entry. -/
theorem b10 (c : Dev nD) (t : Fin cfg0.N) (r k : Fin 1024) : iblk m c 10 t (ix3 0 r k) = m ((c : Thread nD τ).loc main_arg9) (ix3 0 r k) := by
  obtain ⟨i0, i1, i2, i3, i4, i5, i6, i7, i8, i9, i10, i11, i12, i13, o, n⟩ := idx t
  have hE : (win0_10.blk t).view.emb (ix3 0 r k) = ix3 0 r k := by blk_ext [i10]
  have hc : iblk m c 10 t (ix3 0 r k) = V m c main_v2 ((win0_10.blk t).view.emb (ix3 0 r k)) := rfl
  rw [hc, hE]
  have hv : V m c main_v2 = truncf (F := Ideal) .bf16 (m (c, Proc.tc.devRef main_arg9)) bitsLt_bf16_f32 := by
    unfold V; simp only [hostOps0, hostOps0_1, hostOps0_2, List.flatten_cons, List.flatten_nil, List.append_nil, List.cons_append, List.nil_append]; after_results
  rw [hv]
  rfl

/-- The second layer's normalisation weights, taken out of the two layers' array. -/
theorem norm_at (x : Vec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k)
      = x (ix2 1 k) := by
  pointwise

/-- The normalisation's weights are the second layer's, entry for entry. -/
theorem b12 (c : Dev nD) (t : Fin cfg0.N) (k : Fin 1024) : iblk m c 12 t (ix2 0 k) = m ((c : Thread nD τ).loc main_arg10) (ix2 1 k) := by
  obtain ⟨i0, i1, i2, i3, i4, i5, i6, i7, i8, i9, i10, i11, i12, i13, o, n⟩ := idx t
  have hE : (win0_12.blk t).view.emb (ix2 0 k) = ix2 0 k := by blk_ext [i12]
  have hc : iblk m c 12 t (ix2 0 k) = V m c main_v21 ((win0_12.blk t).view.emb (ix2 0 k)) := rfl
  rw [hc, hE]
  have hv : V m c main_v21 = shapeCast S1x1024 (shapeCast S1024 (extractStridedSlice S1x1024 ![1, 0] (m (c, Proc.tc.devRef main_arg10))
      slices_S2x1024_S1x1024_1_0) shapeCasts_S1x1024_S1024) shapeCasts_S1024_S1x1024 := by
    unfold V; simp only [hostOps0, hostOps0_1, hostOps0_2, List.flatten_cons, List.flatten_nil, List.append_nil, List.cons_append, List.nil_append]; after_results; rfl
  rw [hv, norm_at]

/-- Padding 96 columns behind the weights changes none of the columns before. -/
theorem pad_at (x : Vec Ideal S2x1024x4128 .bf16) (v : Vec Ideal S_ .bf16) (l : Fin 2) (k : Fin 1024) (j : Fin 4128) :
    pad S2x1024x4224 ![0, 0, 0] ![0, 0, 96] ![0, 0, 0] x v pads_S2x1024x4128_S2x1024x4224_000_000_0960 h_S_ (ix3 l k ⟨j, by omega⟩) = x (ix3 l k j) := by
  pointwise

/-- The projection's weights are the second layer's, entry for entry, in the columns before the padding. -/
theorem b13 (c : Dev nD) (t : Fin cfg0.N) (k : Fin 1024) (j : Fin 4128) :
    iblk m c 13 t (ix3 0 k ⟨j, by omega⟩) = m ((c : Thread nD τ).loc main_arg11) (ix3 1 k j) := by
  obtain ⟨i0, i1, i2, i3, i4, i5, i6, i7, i8, i9, i10, i11, i12, i13, o, n⟩ := idx t
  have hE : (win0_13.blk t).view.emb (ix3 0 k ⟨j, by omega⟩) = ix3 1 k ⟨j, by omega⟩ := by blk_ext [i13]
  have hc : iblk m c 13 t (ix3 0 k ⟨j, by omega⟩) = V m c main_v1 ((win0_13.blk t).view.emb (ix3 0 k ⟨j, by omega⟩)) := rfl
  rw [hc, hE]
  have hv : V m c main_v1 = pad S2x1024x4224 ![0, 0, 0] ![0, 0, 96] ![0, 0, 0] (truncf (F := Ideal) .bf16 (m (c, Proc.tc.devRef main_arg11)) bitsLt_bf16_f32)
      (sitofp (F := Ideal) .bf16 (constantI S_ 32 0#32)) pads_S2x1024x4128_S2x1024x4224_000_000_0960 h_S_ := by
    unfold V; simp only [hostOps0, hostOps0_1, hostOps0_2, List.flatten_cons, List.flatten_nil, List.append_nil, List.cons_append, List.nil_append]; after_results; rfl
  rw [hv, pad_at]
  rfl

/-- The residual rows of a tile, as the call computes them. -/
abbrev strm (c : Dev nD) (t : Fin cfg0.N) : FVec Ideal S256x1024 .f32 :=
  k0_pay8 (F := Ideal) (k0_pay3 (F := Ideal) (grid0.coords t) (iblk m c 0 t) (iblk m c 1 t)) (k0_pay4 (F := Ideal) (View.ld (iblk m c 6 t) (Rect.unit (k0_off1 (grid0.coords t)) ![1, 3072] (k0_off1_inb (grid0.coords t)))))
    (iblk m c 9 t) (k0_pay5 (F := Ideal) (iblk m c 3 t) (iblk m c 4 t)) (k0_pay6 (F := Ideal) (iblk m c 7 t))
    (k0_pay7 (F := Ideal) (iblk m c 9 t) (iblk m c 3 t) (iblk m c 4 t)) (iblk m c 8 t) (iblk m c 2 t) (iblk m c 5 t) (iblk m c 10 t)

/-- The projection of a tile's rows, as the call computes it. -/
abbrev tile (c : Dev nD) (t : Fin cfg0.N) : FVec Ideal S256x4224 .f32 :=
  k0_pay10 (F := Ideal) (strm m c t) (View.ld (iblk m c 11 t) (Rect.unit (k0_off1 (grid0.coords t)) ![1, 3072] (k0_off1_inb (grid0.coords t)))) (iblk m c 12 t) (iblk m c 13 t)

/-- The plain formula's rows of the arrays the call is given. -/
abbrev row (c : Dev nD) : Fin 8 → Fin 4352 → Fin 1024 → EReal :=
  Ref.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The plain formula's columns of the arrays the call is given. -/
abbrev cols (c : Dev nD) : Fin 8 → Fin 4352 → Fin 4128 → EReal :=
  Ref.cols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A tile's row is the plain formula's at that row. -/
theorem strm_at (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥)
    (t : Fin cfg0.N) (b : Fin 8) (s : Fin 17) (hb : b = t.val / 17) (hs : s = t.val % 17) (r : Fin 256) (j : Fin 1024) :
    strm m c t (ix2 r j) = row m c b ⟨s * 256 + r, by omega⟩ j := by
  obtain ⟨i0, i1, i2, i3, i4, i5, i6, i7, i8, i9, i10, i11, i12, i13, o, n⟩ := idx t
  unfold row Ref.row Ref.acts
  refine (Pay.mix_at (a := iblk m c 2 t) (o₁ := iblk m c 3 t) (o₂ := iblk m c 4 t) (gt := iblk m c 5 t)
    (g := View.ld (iblk m c 6 t) (Rect.unit (k0_off1 (grid0.coords t)) ![1, 3072] (k0_off1_inb (grid0.coords t))))
    (u₁ := iblk m c 7 t) (u₂ := iblk m c 8 t) (tb := iblk m c 9 t) (W := iblk m c 10 t)
    (fun d => m ((c : Thread nD τ).loc main_arg7) (ix2 0 d)) (fun d => m ((c : Thread nD τ).loc main_arg8) (ix2 0 d))
    (k0_pay3 (F := Ideal) (grid0.coords t) (iblk m c 0 t) (iblk m c 1 t)) (b7 m c t) (b8 m c t) (b9 m c t) r ?_ j).trans ?_
  · intro l
    rw [b3 m c t b s hb hs r l, b4 m c t b s hb hs r l]
    exact hf _
  by_cases h : t.val % 17 = 0
  · have hlt : (s : ℕ) * 256 + r < 256 := by omega
    simp only [Pay.stream_c (grid0.coords t) (n.trans h), b0 m c t b hb, b2 m c t b s hb hs, b3 m c t b s hb hs, b4 m c t b s hb hs,
      b5 m c t b s hb hs, b6 m c t _ (⟨8, by omega⟩ : Fin 16) (by simp [h]), b10 m c t, hlt, if_true, dif_pos]
    congr 1
    funext k
    refine congrArg _ (congrArg (fun r => ix3 b r k) (Fin.ext ?_))
    show (r : ℕ) = (s : ℕ) * 256 + r
    omega
  · have hlt : ¬ (s : ℕ) * 256 + r < 256 := by omega
    simp only [Pay.stream_x (grid0.coords t) (by rw [n]; exact h), b1 m c t b s hb hs, b2 m c t b s hb hs, b3 m c t b s hb hs, b4 m c t b s hb hs,
      b5 m c t b s hb hs, b6 m c t _ (⟨b, by omega⟩ : Fin 16) (by simp [h, hb]), b10 m c t, hlt, if_false, dif_neg, not_false_eq_true]
    congr 1
    funext k
    refine congrArg _ (congrArg (fun r => ix3 b r k) (Fin.ext ?_))
    show ((s : ℕ) - 1) * 256 + r = (s : ℕ) * 256 + r - 256
    omega

/-- The projection of a tile's row is the plain formula's at that row. -/
theorem tile_at (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥)
    (t : Fin cfg0.N) (b : Fin 8) (s : Fin 17) (hb : b = t.val / 17) (hs : s = t.val % 17) (r : Fin 256) (j : Fin 4128) :
    tile m c t (ix2 r ⟨j, by omega⟩) = cols m c b ⟨s * 256 + r, by omega⟩ j := by
  unfold cols Ref.cols
  refine (Pay.proj_at _ _ _ (strm m c t) r ⟨j, by omega⟩).trans ?_
  simp only [strm_at m c hf t b s hb hs, b12 m c t, b13 m c t]
  by_cases h : t.val % 17 = 0
  · have hlt : (s : ℕ) * 256 + r < 256 := by omega
    simp only [b11 m c t _ (⟨8, by omega⟩ : Fin 16) (by simp [h]), hlt, if_true]
  · have hlt : ¬ (s : ℕ) * 256 + r < 256 := by omega
    simp only [b11 m c t _ (⟨b, by omega⟩ : Fin 16) (by simp [h, hb]), hlt, if_false]

/-- The plain formula's columns at equal indices. -/
theorem cols_congr (c : Dev nD) (b : Fin 8) {t t' : Fin 4352} {j j' : Fin 4128} (ht : (t : ℕ) = t') (hj : (j : ℕ) = j') :
    cols m c b t j = cols m c b t' j' := by
  rw [Fin.ext ht, Fin.ext hj]

/-- The stream's array. -/
theorem final_stream (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥) : (dats m 0 c).arrAt 14 cfg0.N
      = Cert.Reference3Ideal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t _ y => ?_
  blk_simp
  rw [after0_14]; unfold outsAt0; frame_out
  obtain ⟨y0, r, k, rfl⟩ : ∃ (y0 : Fin 1) (r : Fin 256) (k : Fin 1024), y = ix3 y0 r k := ⟨y 0, y 1, y 2, by funext a; fin_cases a <;> rfl⟩
  obtain rfl : y0 = 0 := Subsingleton.elim _ _
  obtain ⟨i14, i15, i16, i17, i18, i19⟩ := odx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v22_0).slice (win0_14.rect t)).emb (ix3 0 r k) = ix3 b ⟨s * 256 + r, by omega⟩ k := by
    blk_ext [i14]
  rw [hE, Ref.stream_at]
  exact (Pay.store_at (strm m c t) r k).trans (strm_at m c hf t b s hb hs r k)

/-- The queries' array. -/
theorem final_q (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥) : (dats m 0 c).arrAt 15 cfg0.N
      = Cert.Reference3Ideal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]; unfold outsAt0; frame_out
  obtain ⟨y0, y1, r, d, rfl⟩ : ∃ (y0 : Fin 1) (y1 : Fin 4) (r : Fin 256) (d : Fin 128), y = ix4 y0 y1 r d := ⟨y 0, y 1, y 2, y 3, by funext a; fin_cases a <;> rfl⟩
  obtain rfl : y0 = 0 := Subsingleton.elim _ _
  obtain ⟨i14, i15, i16, i17, i18, i19⟩ := odx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v22_1).slice (win0_15.rect t)).emb (ix4 0 y1 r d) = ix4 b y1 ⟨s * 256 + r, by omega⟩ d := by
    blk_ext [i15]
  rw [hE, Ref.q_at]
  canon_tiles x h
  all_goals
    obtain ⟨x0, x1, r', d', rfl⟩ : ∃ (x0 x1 : Fin 1) (r' : Fin 256) (d' : Fin 128), x = ix4 x0 x1 r' d' := ⟨x 0, x 1, x 2, x 3, by funext a; fin_cases a <;> rfl⟩
    simp only [ix4, Matrix.cons_val] at h0 h1 h2 h3
  · exact (Pay.q3 (p := tile m c t) x0 x1 r' d').trans (congrArg (· * Rows.qscale) ((tile_at m c hf t b s hb hs r' ⟨384 + d', by omega⟩).trans (cols_congr m c b (by dsimp only; omega) (by dsimp only; omega))))
  · exact (Pay.q2 (p := tile m c t) x0 x1 r' d').trans (congrArg (· * Rows.qscale) ((tile_at m c hf t b s hb hs r' ⟨256 + d', by omega⟩).trans (cols_congr m c b (by dsimp only; omega) (by dsimp only; omega))))
  · exact (Pay.q1 (p := tile m c t) x0 x1 r' d').trans (congrArg (· * Rows.qscale) ((tile_at m c hf t b s hb hs r' ⟨128 + d', by omega⟩).trans (cols_congr m c b (by dsimp only; omega) (by dsimp only; omega))))
  · exact (Pay.q0 _ _ _ (strm m c t) x0 x1 r' d').trans (congrArg (· * Rows.qscale) ((tile_at m c hf t b s hb hs r' ⟨d', by omega⟩).trans (cols_congr m c b (by dsimp only; omega) (by dsimp only; omega))))

/-- The keys' array. -/
theorem final_k (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥) : (dats m 0 c).arrAt 16 cfg0.N
      = Cert.Reference3Ideal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 16 _ (by decide +kernel) fun t _ y => ?_
  blk_simp
  rw [after0_16]; unfold outsAt0; frame_out
  obtain ⟨y0, y1, r, d, rfl⟩ : ∃ (y0 : Fin 1) (y1 : Fin 4) (r : Fin 256) (d : Fin 128), y = ix4 y0 y1 r d := ⟨y 0, y 1, y 2, y 3, by funext a; fin_cases a <;> rfl⟩
  obtain rfl : y0 = 0 := Subsingleton.elim _ _
  obtain ⟨i14, i15, i16, i17, i18, i19⟩ := odx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v22_2).slice (win0_16.rect t)).emb (ix4 0 y1 r d) = ix4 b y1 ⟨s * 256 + r, by omega⟩ d := by
    blk_ext [i16]
  rw [hE, Ref.k_at]
  canon_tiles x h
  all_goals
    obtain ⟨x0, x1, r', d', rfl⟩ : ∃ (x0 x1 : Fin 1) (r' : Fin 256) (d' : Fin 128), x = ix4 x0 x1 r' d' := ⟨x 0, x 1, x 2, x 3, by funext a; fin_cases a <;> rfl⟩
    simp only [ix4, Matrix.cons_val] at h0 h1 h2 h3
  · exact (Pay.k3 (p := tile m c t) x0 x1 r' d').trans ((tile_at m c hf t b s hb hs r' ⟨896 + d', by omega⟩).trans (cols_congr m c b (by dsimp only; omega) (by dsimp only; omega)))
  · exact (Pay.k2 (p := tile m c t) x0 x1 r' d').trans ((tile_at m c hf t b s hb hs r' ⟨768 + d', by omega⟩).trans (cols_congr m c b (by dsimp only; omega) (by dsimp only; omega)))
  · exact (Pay.k1 (p := tile m c t) x0 x1 r' d').trans ((tile_at m c hf t b s hb hs r' ⟨640 + d', by omega⟩).trans (cols_congr m c b (by dsimp only; omega) (by dsimp only; omega)))
  · exact (Pay.k0 (p := tile m c t) x0 x1 r' d').trans ((tile_at m c hf t b s hb hs r' ⟨512 + d', by omega⟩).trans (cols_congr m c b (by dsimp only; omega) (by dsimp only; omega)))

/-- The values' array. -/
theorem final_v (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥) : (dats m 0 c).arrAt 17 cfg0.N
      = Cert.Reference3Ideal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 17 _ (by decide +kernel) fun t _ y => ?_
  blk_simp
  rw [after0_17]; unfold outsAt0; frame_out
  obtain ⟨y0, y1, y2, d, r, rfl⟩ : ∃ (y0 : Fin 1) (y1 : Fin 4) (y2 : Fin 2) (d r : Fin 128), y = ix5 y0 y1 y2 d r := ⟨y 0, y 1, y 2, y 3, y 4, by funext a; fin_cases a <;> rfl⟩
  obtain rfl : y0 = 0 := Subsingleton.elim _ _
  obtain ⟨i14, i15, i16, i17, i18, i19⟩ := odx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v22_3).slice (win0_17.rect t)).emb (ix5 0 y1 y2 d r) = ix5 b y1 ⟨s * 2 + y2, by omega⟩ d r := by
    blk_ext [i17]
  rw [hE, Ref.v_at]
  canon_tiles x h
  all_goals
    obtain ⟨x0, x1, x2, d', r', rfl⟩ : ∃ (x0 x1 x2 : Fin 1) (d' r' : Fin 128), x = ix5 x0 x1 x2 d' r' := ⟨x 0, x 1, x 2, x 3, x 4, by funext a; fin_cases a <;> rfl⟩
    simp only [ix5, Matrix.cons_val] at h0 h1 h2 h3 h4
  · exact (Pay.v31 (p := tile m c t) x0 x1 x2 d' r').trans ((tile_at m c hf t b s hb hs ⟨128 + r', by omega⟩ ⟨1408 + d', by omega⟩).trans (cols_congr m c b (by dsimp only; omega) (by dsimp only; omega)))
  · exact (Pay.v30 (p := tile m c t) x0 x1 x2 d' r').trans ((tile_at m c hf t b s hb hs ⟨0 + r', by omega⟩ ⟨1408 + d', by omega⟩).trans (cols_congr m c b (by dsimp only; omega) (by dsimp only; omega)))
  · exact (Pay.v21 (p := tile m c t) x0 x1 x2 d' r').trans ((tile_at m c hf t b s hb hs ⟨128 + r', by omega⟩ ⟨1280 + d', by omega⟩).trans (cols_congr m c b (by dsimp only; omega) (by dsimp only; omega)))
  · exact (Pay.v20 (p := tile m c t) x0 x1 x2 d' r').trans ((tile_at m c hf t b s hb hs ⟨0 + r', by omega⟩ ⟨1280 + d', by omega⟩).trans (cols_congr m c b (by dsimp only; omega) (by dsimp only; omega)))
  · exact (Pay.v11 (p := tile m c t) x0 x1 x2 d' r').trans ((tile_at m c hf t b s hb hs ⟨128 + r', by omega⟩ ⟨1152 + d', by omega⟩).trans (cols_congr m c b (by dsimp only; omega) (by dsimp only; omega)))
  · exact (Pay.v10 (p := tile m c t) x0 x1 x2 d' r').trans ((tile_at m c hf t b s hb hs ⟨0 + r', by omega⟩ ⟨1152 + d', by omega⟩).trans (cols_congr m c b (by dsimp only; omega) (by dsimp only; omega)))
  · exact (Pay.v01 (p := tile m c t) x0 x1 x2 d' r').trans ((tile_at m c hf t b s hb hs ⟨128 + r', by omega⟩ ⟨1024 + d', by omega⟩).trans (cols_congr m c b (by dsimp only; omega) (by dsimp only; omega)))
  · exact (Pay.v00 (p := tile m c t) x0 x1 x2 d' r').trans ((tile_at m c hf t b s hb hs ⟨0 + r', by omega⟩ ⟨1024 + d', by omega⟩).trans (cols_congr m c b (by dsimp only; omega) (by dsimp only; omega)))

/-- The gates' array. -/
theorem final_gates (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥) : (dats m 0 c).arrAt 18 cfg0.N
      = Cert.Reference3Ideal.Read.val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 18 _ (by decide +kernel) fun t _ y => ?_
  blk_simp
  rw [after0_18]; unfold outsAt0; frame_out
  obtain ⟨y0, r, k, rfl⟩ : ∃ (y0 : Fin 1) (r : Fin 256) (k : Fin 1024), y = ix3 y0 r k := ⟨y 0, y 1, y 2, by funext a; fin_cases a <;> rfl⟩
  obtain rfl : y0 = 0 := Subsingleton.elim _ _
  obtain ⟨i14, i15, i16, i17, i18, i19⟩ := odx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v22_4).slice (win0_18.rect t)).emb (ix3 0 r k) = ix3 b ⟨s * 256 + r, by omega⟩ k := by
    blk_ext [i18]
  rw [hE, Ref.gates_at]
  exact (Pay.gates_at (p := tile m c t) r k).trans (tile_at m c hf t b s hb hs r (Rows.gateCol k))

/-- The scans' array. -/
theorem final_scan (c : Dev nD) (hf : ∀ i : S8x4352x512.Idx, (show EReal from m ((c : Thread nD τ).loc main_arg3) i) + (show EReal from m ((c : Thread nD τ).loc main_arg4) i) ≠ ⊤
      ∧ (show EReal from m ((c : Thread nD τ).loc main_arg3) i) + (show EReal from m ((c : Thread nD τ).loc main_arg4) i) ≠ ⊥) : (dats m 0 c).arrAt 19 cfg0.N
      = Cert.Reference3Ideal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 19 _ (by decide +kernel) fun t _ y => ?_
  blk_simp
  rw [after0_19]; unfold outsAt0; frame_out
  obtain ⟨y0, r, k, rfl⟩ : ∃ (y0 : Fin 1) (r : Fin 256) (k : Fin 1664), y = ix3 y0 r k := ⟨y 0, y 1, y 2, by funext a; fin_cases a <;> rfl⟩
  obtain rfl : y0 = 0 := Subsingleton.elim _ _
  obtain ⟨i14, i15, i16, i17, i18, i19⟩ := odx t
  have ht : t.val < 136 := t.isLt
  obtain ⟨b, hb⟩ : ∃ b : Fin 8, b.val = t.val / 17 := ⟨⟨t.val / 17, by omega⟩, rfl⟩
  obtain ⟨s, hs⟩ : ∃ s : Fin 17, s.val = t.val % 17 := ⟨⟨t.val % 17, by omega⟩, rfl⟩
  have hE : ((View.whole main_v22_5).slice (win0_19.rect t)).emb (ix3 0 r k) = ix3 b ⟨s * 256 + r, by omega⟩ k := by
    blk_ext [i19]
  rw [hE, Ref.scan_at]
  exact (Pay.scan_at (p := tile m c t) r k).trans (tile_at m c hf t b s hb hs r (Rows.scanCol k))

end Cert.OutIn

end
-- ==== Proof.RefMod.lean ====
module

public import proofs.«01_k».proof.Proof.Gen.Reference4Ideal.Read
public import proofs.«01_k».proof.Proof.Rows

@[expose] public section

set_option maxRecDepth 16384

noncomputable section

namespace Cert.Rows

open Idealize.ShloMosaic

/-- The rows the modulation is computed from: the batch elements' vectors, the context's vector, then rows of zeros. -/
def cond (c : Fin 8 → Fin 1024 → EReal) (cc : Fin 1024 → EReal) (r : Fin 16) (k : Fin 1024) : EReal :=
  if h : (r : ℕ) < 8 then c ⟨r, h⟩ k else if (r : ℕ) = 8 then cc k else 0

/-- One entry of the modulation table: the row through SiLU against a column of the weights, plus the bias. -/
def modEntry (x w : Fin 1024 → EReal) (b : EReal) : EReal := (∑ k : Fin 1024, silu (x k) * w k) + b

end Cert.Rows

namespace Cert.Mod.Ref

open Idealize.ShloMosaic Idealize.ShloMosaic.TcCoe Idealize.SL.Sem
open Cert.Reference4Ideal Cert.Reference4Ideal.Read

variable (x0 : FVec Ideal S8x1024 .f32) (x1 : FVec Ideal S1024 .f32) (x2 : FVec Ideal S2x1024x3072 .f32) (x3 : FVec Ideal S2x3072 .f32)

/-- The rows the plain formula starts from. -/
theorem cond_at (r : Fin 16) (k : Fin 1024) : val_main_v2 (F := Ideal) x0 x1 (ix2 r k)
    = Rows.cond (fun r k => x0 (ix2 r k)) (fun k => x1 (ix1 k)) r k := by
  pointwise [val_main_v2, val_main_v0, val_main_v1, val_main_cst]
  unfold Rows.cond
  split_ifs <;> first | rfl | omega

/-- The first layer's table, by entry. -/
theorem first_at (r : Fin 16) (j : Fin 3072) : val_main_v11 (F := Ideal) x0 x1 x2 x3 (ix2 r j)
    = Rows.modEntry (Rows.cond (fun r k => x0 (ix2 r k)) (fun k => x1 (ix1 k)) r) (fun k => x2 (ix3 0 k j)) (x3 (ix2 0 j)) := by
  pointwise [val_main_v11, val_main_v6, val_main_v10, val_main_v9, val_main_v8, val_main_v7, val_main_v5, val_main_v4, val_main_v3, val_main_call0_v0, val_main_call0_v1, val_main_call0_v2, val_main_call0_v3, val_main_call0_v4, val_main_call0_v5, val_main_call0_cst, val_main_call0_cst_0]
  simp only [cond_at]
  rfl

/-- The second layer's table, by entry. -/
theorem second_at (r : Fin 16) (j : Fin 3072) : val_main_v20 (F := Ideal) x0 x1 x2 x3 (ix2 r j)
    = Rows.modEntry (Rows.cond (fun r k => x0 (ix2 r k)) (fun k => x1 (ix1 k)) r) (fun k => x2 (ix3 1 k j)) (x3 (ix2 1 j)) := by
  pointwise [val_main_v20, val_main_v15, val_main_v19, val_main_v18, val_main_v17, val_main_v16, val_main_v14, val_main_v13, val_main_v12, val_main_call1_v0, val_main_call1_v1, val_main_call1_v2, val_main_call1_v3, val_main_call1_v4, val_main_call1_v5, val_main_call1_cst, val_main_call1_cst_0]
  simp only [cond_at]
  rfl

/-- The two layers' tables as an array. -/
theorem table_at (l : Fin 2) (r : Fin 16) (j : Fin 3072) : val_main_v23 (F := Ideal) x0 x1 x2 x3 (ix3 l r j)
    = Rows.modEntry (Rows.cond (fun r k => x0 (ix2 r k)) (fun k => x1 (ix1 k)) r) (fun k => x2 (ix3 l k j)) (x3 (ix2 l j)) := by
  pointwise [val_main_v23, val_main_v21, val_main_v22]
  simp only [first_at, second_at]
  fin_cases l <;> rfl

end Cert.Mod.Ref

end
-- ==== Proof.ModValue.lean ====
module

public import proofs.«01_k».proof.Proof.Gen.Kernel4Ideal.Value
public import Idealize.ShloMosaic.Lib.Routing.OpsPair
public import Idealize.ShloMosaic.Lib.Routing.OpsSet
public import proofs.«01_k».proof.Proof.RefMod

@[expose] public section

set_option maxRecDepth 16384

noncomputable section

namespace Cert.Mod

open Cert.Kernel4Ideal Cert.Kernel4Ideal.Gen Idealize.ShloMosaic Idealize.ShloMosaic.TcCoe Idealize.SL.Sem
open Idealize.ShloMosaic.Pipeline (Dat)

/-! The modulation table as an array: every block of the call's grid is the same entries of the plain formula. -/

variable (m : (ℓ : Loc nD τ sig) → Buf (Elt Ideal) ℓ)

/-- The block index of each window at each point. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] :=
  (by decide +kernel : ∀ t : Fin grid0.N, _)

/-- The one index word, spread to an array of one. -/
abbrev word (n : BitVec 32) : IVec S1 32 := broadcastInDim S1 ![] bcast_S_S1 (constantI S_ 32 n)

/-- Where an entry of the batch elements' rows lands: at itself. -/
theorem lands_rows (p : Fin 8) (q : Fin 1024) (r : Fin 16) (k : Fin 1024) :
    scatter_S16x1024_S1_S8x1024_01_n_0_0.resultIdx? (ix2 p q) (word 0#32) = some (ix2 r k) ↔ (p : ℕ) = r ∧ (q : ℕ) = k := by
  refine (Routing.resultIdx?_ix2 (R := 16) (C := 1024) _ _ _ r k).trans ?_
  have s0 : scatter_S16x1024_S1_S8x1024_01_n_0_0.start (ix2 p q) (word 0#32) 0 = 0 := rfl
  have s1 : scatter_S16x1024_S1_S8x1024_01_n_0_0.start (ix2 p q) (word 0#32) 1 = 0 := rfl
  have w0 : scatter_S16x1024_S1_S8x1024_01_n_0_0.window (ix2 p q) 0 = p.val := rfl
  have w1 : scatter_S16x1024_S1_S8x1024_01_n_0_0.window (ix2 p q) 1 = q.val := rfl
  rw [s0, s1, w0, w1]
  omega

/-- Where an entry of the context's row lands: in row 8. -/
theorem lands_row (q : Fin 1024) (r : Fin 16) (k : Fin 1024) :
    scatter_S16x1024_S1_S1024_0_0_0_0.resultIdx? (ix1 q) (word 8#32) = some (ix2 r k) ↔ (r : ℕ) = 8 ∧ (q : ℕ) = k := by
  refine (Routing.resultIdx?_ix2 (R := 16) (C := 1024) _ _ _ r k).trans ?_
  have s0 : scatter_S16x1024_S1_S1024_0_0_0_0.start (ix1 q) (word 8#32) 0 = 8 := rfl
  have s1 : scatter_S16x1024_S1_S1024_0_0_0_0.start (ix1 q) (word 8#32) 1 = 0 := rfl
  have w0 : scatter_S16x1024_S1_S1024_0_0_0_0.window (ix1 q) 0 = 0 := rfl
  have w1 : scatter_S16x1024_S1_S1024_0_0_0_0.window (ix1 q) 1 = q.val := rfl
  rw [s0, s1, w0, w1]
  omega

/-- The batch elements' rows written over an array: its first eight rows are theirs. -/
theorem rows_at (x : FVec Ideal S16x1024 .f32) (u : FVec Ideal S8x1024 .f32) (r : Fin 16) (k : Fin 1024) :
    Host.scatter scatter_S16x1024_S1_S8x1024_01_n_0_0 (fun _ b => b) x (word 0#32) u (ix2 r k)
      = if h : (r : ℕ) < 8 then u (ix2 ⟨r, h⟩ k) else x (ix2 r k) := by
  by_cases h : (r : ℕ) < 8
  · rw [dif_pos h]
    refine Routing.scatter_set_hit _ _ _ _ _ _ (fun j hj => ?_) (ix2 ⟨r, h⟩ k) ((lands_rows _ _ _ _).2 ⟨rfl, rfl⟩)
    obtain ⟨p, q, rfl⟩ : ∃ (p : Fin 8) (q : Fin 1024), j = ix2 p q := ⟨j 0, j 1, by funext a; fin_cases a <;> rfl⟩
    obtain ⟨e, e'⟩ := (lands_rows p q r k).1 hj
    obtain rfl : p = ⟨r, h⟩ := Fin.ext e
    obtain rfl : q = k := Fin.ext e'
    rfl
  · rw [dif_neg h]
    refine Routing.scatter_set_miss _ _ _ _ _ fun j hj => ?_
    obtain ⟨p, q, rfl⟩ : ∃ (p : Fin 8) (q : Fin 1024), j = ix2 p q := ⟨j 0, j 1, by funext a; fin_cases a <;> rfl⟩
    obtain ⟨e, e'⟩ := (lands_rows p q r k).1 hj
    omega

/-- The context's row written over an array: row 8 is it. -/
theorem row_at (x : FVec Ideal S16x1024 .f32) (u : FVec Ideal S1024 .f32) (r : Fin 16) (k : Fin 1024) :
    Host.scatter scatter_S16x1024_S1_S1024_0_0_0_0 (fun _ b => b) x (word 8#32) u (ix2 r k)
      = if (r : ℕ) = 8 then u (ix1 k) else x (ix2 r k) := by
  by_cases h : (r : ℕ) = 8
  · rw [if_pos h]
    refine Routing.scatter_set_hit _ _ _ _ _ _ (fun j hj => ?_) (ix1 k) ((lands_row _ _ _).2 ⟨h, rfl⟩)
    obtain ⟨q, rfl⟩ : ∃ q : Fin 1024, j = ix1 q := ⟨j 0, by funext a; fin_cases a; rfl⟩
    obtain ⟨e, e'⟩ := (lands_row q r k).1 hj
    obtain rfl : q = k := Fin.ext e'
    rfl
  · rw [if_neg h]
    refine Routing.scatter_set_miss _ _ _ _ _ fun j hj => ?_
    obtain ⟨q, rfl⟩ : ∃ q : Fin 1024, j = ix1 q := ⟨j 0, by funext a; fin_cases a; rfl⟩
    exact h ((lands_row q r k).1 hj).1

/-- The array the call starts from is the plain formula's rows. -/
theorem b0 (c : Dev nD) (t : Fin cfg0.N) (r : Fin 16) (k : Fin 1024) : iblk m c 0 t (ix2 r k)
    = Rows.cond (fun r k => m ((c : Thread nD τ).loc main_arg0) (ix2 r k)) (fun k => m ((c : Thread nD τ).loc main_arg1) (ix1 k)) r k := by
  obtain ⟨i0, i1, i2, i3⟩ := idx t
  have hE : (win0_0.blk t).view.emb (ix2 r k) = ix2 r k := by blk_ext [i0]
  have hc : iblk m c 0 t (ix2 r k) = V m c main_v4 ((win0_0.blk t).view.emb (ix2 r k)) := rfl
  rw [hc, hE]
  have hv : V m c main_v4 = Host.scatter scatter_S16x1024_S1_S1024_0_0_0_0 (fun _ b => b)
      (Host.scatter scatter_S16x1024_S1_S8x1024_01_n_0_0 (fun _ b => b) (broadcastInDim S16x1024 ![] bcast_S_S16x1024 (constant (F := Ideal) S_ .f32 0x00000000#32))
        (word 0#32) (m (c, Proc.tc.devRef main_arg0))) (word 8#32) (m (c, Proc.tc.devRef main_arg1)) := by
    unfold V; simp only [hostOps0]; after_results
  rw [hv, row_at, rows_at]
  have h0 : broadcastInDim S16x1024 ![] bcast_S_S16x1024 (constant (F := Ideal) S_ .f32 0x00000000#32) (ix2 r k) = (0 : EReal) := by pointwise
  rw [h0]
  unfold Rows.cond
  split_ifs <;> first | rfl | omega

/-- An entry of a block of the weights. -/
theorem b1 (c : Dev nD) (t : Fin cfg0.N) (l : Fin 2) (s : Fin 3) (hl : l = t.val / 3) (hs : s = t.val % 3) (k j : Fin 1024) :
    iblk m c 1 t (ix3 0 k j) = m ((c : Thread nD τ).loc main_arg2) (ix3 l k ⟨s * 1024 + j, by omega⟩) := by
  obtain ⟨i0, i1, i2, i3⟩ := idx t
  blk_point [iblk, V, i1]

/-- The biases with a row axis between. -/
theorem bias_at (x : Vec Ideal S2x3072 .f32) (l : Fin 2) (j : Fin 3072) :
    shapeCast S2x1x3072 x shapeCasts_S2x3072_S2x1x3072 (ix3 l 0 j) = x (ix2 l j) := by
  pointwise

/-- An entry of a block of the biases. -/
theorem b2 (c : Dev nD) (t : Fin cfg0.N) (l : Fin 2) (s : Fin 3) (hl : l = t.val / 3) (hs : s = t.val % 3) (j : Fin 1024) :
    iblk m c 2 t (ix3 0 0 j) = m ((c : Thread nD τ).loc main_arg3) (ix2 l ⟨s * 1024 + j, by omega⟩) := by
  obtain ⟨i0, i1, i2, i3⟩ := idx t
  have hE : (win0_2.blk t).view.emb (ix3 0 0 j) = ix3 l 0 ⟨s * 1024 + j, by omega⟩ := by blk_ext [i2]
  have hc : iblk m c 2 t (ix3 0 0 j) = V m c main_v5 ((win0_2.blk t).view.emb (ix3 0 0 j)) := rfl
  rw [hc, hE]
  have hv : V m c main_v5 = shapeCast S2x1x3072 (m (c, Proc.tc.devRef main_arg3)) shapeCasts_S2x3072_S2x1x3072 := by
    unfold V; simp only [hostOps0]; after_results; rfl
  rw [hv, bias_at]

/-- What the call stores, by entry of what it loads. -/
theorem pay_at (x : Vec Ideal S16x1024 .f32) (W : Vec Ideal S1x1024x1024 .f32) (b : Vec Ideal S1x1x1024 .f32) (r : Fin 16) (j : Fin 1024) :
    k0_pay1 (F := Ideal) x W b (ix3 0 r j) = Rows.modEntry (fun k => x (ix2 r k)) (fun k => W (ix3 0 k j)) (b (ix3 0 0 j)) := by
  pointwise [k0_pay1]
  simp only [zero_sub]
  rfl

/-- The modulation table is the plain formula's. -/
theorem final (c : Dev nD) : (dats m 0 c).arrAt 3 cfg0.N
      = Cert.Reference4Ideal.Read.val_main_v23 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t _ y => ?_
  blk_simp
  rw [after0_3]; unfold out0_3; frame_out
  obtain ⟨y0, r, k, rfl⟩ : ∃ (y0 : Fin 1) (r : Fin 16) (k : Fin 1024), y = ix3 y0 r k := ⟨y 0, y 1, y 2, by funext a; fin_cases a <;> rfl⟩
  obtain rfl : y0 = 0 := Subsingleton.elim _ _
  obtain ⟨i0, i1, i2, i3⟩ := idx t
  have ht : t.val < 6 := t.isLt
  obtain ⟨l, hl⟩ : ∃ l : Fin 2, l.val = t.val / 3 := ⟨⟨t.val / 3, by omega⟩, rfl⟩
  obtain ⟨s, hs⟩ : ∃ s : Fin 3, s.val = t.val % 3 := ⟨⟨t.val % 3, by omega⟩, rfl⟩
  have hE : ((View.whole main_v6).slice (win0_3.rect t)).emb (ix3 0 r k) = ix3 l r ⟨s * 1024 + k, by omega⟩ := by
    blk_ext [i3]
  rw [hE, Ref.table_at]
  refine (pay_at (iblk m c 0 t) (iblk m c 1 t) (iblk m c 2 t) r k).trans ?_
  simp only [b0 m c t, b1 m c t l s hl hs, b2 m c t l s hl hs]

end Cert.Mod

end
-- ==== Proof.lean ====
module

public import proofs.«01_k».proof.Defs
public import proofs.«01_k».proof.Proof.Gen.Kernel.Frame
public import proofs.«01_k».proof.Proof.FinalValue
public import proofs.«01_k».proof.Proof.Gen.ReferenceIdeal.Run
public import proofs.«01_k».proof.Proof.Gen.Kernel2.Frame
public import proofs.«01_k».proof.Proof.InValue
public import proofs.«01_k».proof.Proof.Gen.Reference2Ideal.Run
public import proofs.«01_k».proof.Proof.Gen.Kernel3.Frame
public import proofs.«01_k».proof.Proof.MidValue
public import proofs.«01_k».proof.Proof.Gen.Reference3Ideal.Run
public import proofs.«01_k».proof.Proof.Gen.Reference3Ideal.Read
public import proofs.«01_k».proof.Proof.Gen.Kernel4.Frame
public import proofs.«01_k».proof.Proof.ModValue
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The kernel at its machine formats runs and leaves its arguments as they were. -/
theorem frame_p : Cert.quiescent_Kernel (hKernel := Cert.Kernel.Gen.facts) :=
  fun m ρ _ => Cert.Kernel.Gen.frame m ρ

/-- The kernel on the extended reals runs and leaves its arguments as they were. -/
theorem frame_pi : Cert.quiescent_KernelIdeal (hKernelIdeal := Cert.KernelIdeal.Gen.facts) :=
  fun m ρ _ => Cert.KernelIdeal.Gen.frame m ρ

/-- The same where the precondition holds. -/
theorem frame_pi_pre : Cert.quiescent_KernelIdeal_pre_scans_finite (hKernelIdeal := Cert.KernelIdeal.Gen.facts)
    (hPre_scans_finite := Cert.OutFinal.scans_facts) :=
  fun m ρ _ => Cert.KernelIdeal.Gen.frame m ρ

/-- The reference runs and leaves its arguments as they were. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_ri_pre : Cert.quiescent_ReferenceIdeal_pre_scans_finite (hReferenceIdeal := Cert.ReferenceIdeal.Gen.facts)
    (hPre_scans_finite := Cert.OutFinal.scans_facts) := fun m ρ _ => frame_ri m ρ trivial

/-- The last output projection: kernel and reference, on the same arguments, end with the same array. -/
theorem value_final : Cert.algebraic_KernelIdeal_ReferenceIdeal_pre_scans_finite (hKernelIdeal := Cert.KernelIdeal.Gen.facts)
    (hReferenceIdeal := Cert.ReferenceIdeal.Gen.facts) (hPre_scans_finite := Cert.OutFinal.scans_facts) := by
  intro m g m' g' hp hagree
  refine ⟨fun c => (Cert.KernelIdeal.Gen.dats m 0 c).arrAt 11 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  obtain ⟨h0, h1, h2, h3, h4, h5, h6, h7, h8, h9⟩ := hagree c
  refine (h c).1.trans ?_
  rw [Cert.ReferenceIdeal.Read.val_main_v76_eq, h0, h1, h2, h3, h4, h5, h6, h7, h8, h9]
  exact (Cert.OutFinal.final m c (fun i => Cert.OutFinal.scans_real Cert.OutFinal.scans_facts _ _ _ _ _ _ _ _ _ _ (hp c) i)).symm

/-- The first layer's input projection at its machine formats runs and leaves its arguments as they were. -/
theorem frame_p2 : Cert.quiescent_Kernel2 (hKernel2 := Cert.Kernel2.Gen.facts) :=
  fun m ρ _ => Cert.Kernel2.Gen.frame m ρ

/-- The same on the extended reals. -/
theorem frame_pi2 : Cert.quiescent_Kernel2Ideal (hKernel2Ideal := Cert.Kernel2Ideal.Gen.facts) :=
  fun m ρ _ => Cert.Kernel2Ideal.Gen.frame m ρ

/-- The input projection's reference runs and leaves its arguments as they were. -/
theorem frame_ri2 : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The first layer's input projection: kernel and reference, on the same arguments, end with the same five arrays. -/
theorem value_in : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N, Cert.Kernel2Ideal.Value.run_blocks m g, ?_⟩
  refine (θ_run Cert.Reference2Ideal.defs _ _).mono (fun r h c => ⟨?_, ?_, ?_, ?_, ?_, (h c).2.2.2.2.2⟩) (Cert.Reference2Ideal.Value.run (F := Ideal) m' g')
  all_goals obtain ⟨h0, h1, h2, h3, h4⟩ := hagree c
  · refine (h c).1.trans ?_
    rw [Cert.Reference2Ideal.Read.val_main_v82_eq, h0, h1, h2, h3, h4]
    exact (Cert.InProj.final_q m c).symm
  · refine (h c).2.1.trans ?_
    rw [Cert.Reference2Ideal.Read.val_main_v83_eq, h0, h1, h2, h3, h4]
    exact (Cert.InProj.final_k m c).symm
  · refine (h c).2.2.1.trans ?_
    rw [Cert.Reference2Ideal.Read.val_main_v84_eq, h0, h1, h2, h3, h4]
    exact (Cert.InProj.final_v m c).symm
  · refine (h c).2.2.2.1.trans ?_
    rw [Cert.Reference2Ideal.Read.val_main_v85_eq, h0, h1, h2, h3, h4]
    exact (Cert.InProj.final_gates m c).symm
  · refine (h c).2.2.2.2.1.trans ?_
    rw [Cert.Reference2Ideal.Read.val_main_v81_eq, h0, h1, h2, h3, h4]
    exact (Cert.InProj.final_scan m c).symm

/-- The first layer's output projection with the second layer's input projection, at its machine formats, runs and leaves
    its arguments as they were. -/
theorem frame_p3 : Cert.quiescent_Kernel3 (hKernel3 := Cert.Kernel3.Gen.facts) :=
  fun m ρ _ => Cert.Kernel3.Gen.frame m ρ

/-- The same on the extended reals. -/
theorem frame_pi3 : Cert.quiescent_Kernel3Ideal (hKernel3Ideal := Cert.Kernel3Ideal.Gen.facts) :=
  fun m ρ _ => Cert.Kernel3Ideal.Gen.frame m ρ

/-- The same where the precondition holds. -/
theorem frame_pi3_pre : Cert.quiescent_Kernel3Ideal_pre_mid_scans_finite (hKernel3Ideal := Cert.Kernel3Ideal.Gen.facts)
    (hPre_mid_scans_finite := Cert.OutIn.scans_facts) :=
  fun m ρ _ => Cert.Kernel3Ideal.Gen.frame m ρ

/-- That call's reference runs and leaves its arguments as they were. -/
theorem frame_ri3 : Cert.quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The same where the precondition holds. -/
theorem frame_ri3_pre : Cert.quiescent_Reference3Ideal_pre_mid_scans_finite (hReference3Ideal := Cert.Reference3Ideal.Gen.facts)
    (hPre_mid_scans_finite := Cert.OutIn.scans_facts) := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

set_option maxHeartbeats 4000000 in
/-- The first layer's output projection with the second layer's input projection: kernel and reference, on the same
    arguments, with real scan sums, end with the same six arrays. -/
theorem value_out_in : Cert.algebraic_Kernel3Ideal_Reference3Ideal_pre_mid_scans_finite (hKernel3Ideal := Cert.Kernel3Ideal.Gen.facts)
    (hReference3Ideal := Cert.Reference3Ideal.Gen.facts) (hPre_mid_scans_finite := Cert.OutIn.scans_facts) := by
  intro m g m' g' hp hagree
  refine ⟨fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N,
    fun c => (Cert.Kernel3Ideal.Gen.dats m 0 c).arrAt 19 Cert.Kernel3Ideal.cfg0.N, Cert.Kernel3Ideal.Value.run_blocks m g, ?_⟩
  refine (θ_run Cert.Reference3Ideal.defs _ _).mono (fun r h c => ⟨?_, ?_, ?_, ?_, ?_, ?_, (h c).2.2.2.2.2.2⟩) (Cert.Reference3Ideal.Value.run (F := Ideal) m' g')
  all_goals
    have hf := fun i => Cert.OutIn.scans_real Cert.OutIn.scans_facts _ _ _ _ _ _ _ _ _ _ _ _ (hp c) i
    obtain ⟨h0, h1, h2, h3, h4, h5, h6, h7, h8, h9, h10, h11⟩ := hagree c
    have e0 : StableHlo.launchContents m' c (Proc.tc.devRef Cert.Reference3Ideal.main_arg0) = m (c.tc.loc Cert.Kernel3Ideal.main_arg0) := h0
    have e1 : StableHlo.launchContents m' c (Proc.tc.devRef Cert.Reference3Ideal.main_arg1) = m (c.tc.loc Cert.Kernel3Ideal.main_arg1) := h1
    have e2 : StableHlo.launchContents m' c (Proc.tc.devRef Cert.Reference3Ideal.main_arg2) = m (c.tc.loc Cert.Kernel3Ideal.main_arg2) := h2
    have e3 : StableHlo.launchContents m' c (Proc.tc.devRef Cert.Reference3Ideal.main_arg3) = m (c.tc.loc Cert.Kernel3Ideal.main_arg3) := h3
    have e4 : StableHlo.launchContents m' c (Proc.tc.devRef Cert.Reference3Ideal.main_arg4) = m (c.tc.loc Cert.Kernel3Ideal.main_arg4) := h4
    have e5 : StableHlo.launchContents m' c (Proc.tc.devRef Cert.Reference3Ideal.main_arg5) = m (c.tc.loc Cert.Kernel3Ideal.main_arg5) := h5
    have e6 : StableHlo.launchContents m' c (Proc.tc.devRef Cert.Reference3Ideal.main_arg6) = m (c.tc.loc Cert.Kernel3Ideal.main_arg6) := h6
    have e7 : StableHlo.launchContents m' c (Proc.tc.devRef Cert.Reference3Ideal.main_arg7) = m (c.tc.loc Cert.Kernel3Ideal.main_arg7) := h7
    have e8 : StableHlo.launchContents m' c (Proc.tc.devRef Cert.Reference3Ideal.main_arg8) = m (c.tc.loc Cert.Kernel3Ideal.main_arg8) := h8
    have e9 : StableHlo.launchContents m' c (Proc.tc.devRef Cert.Reference3Ideal.main_arg9) = m (c.tc.loc Cert.Kernel3Ideal.main_arg9) := h9
    have e10 : StableHlo.launchContents m' c (Proc.tc.devRef Cert.Reference3Ideal.main_arg10) = m (c.tc.loc Cert.Kernel3Ideal.main_arg10) := h10
    have e11 : StableHlo.launchContents m' c (Proc.tc.devRef Cert.Reference3Ideal.main_arg11) = m (c.tc.loc Cert.Kernel3Ideal.main_arg11) := h11
  · refine (h c).1.trans ?_
    rw [Cert.Reference3Ideal.Read.val_main_v120_eq, e0, e1, e2, e3, e4, e5, e6, e7, e8, e9]
    exact (Cert.OutIn.final_stream m c hf).symm
  · refine (h c).2.1.trans ?_
    rw [Cert.Reference3Ideal.Read.val_main_v151_eq, e0, e1, e2, e3, e4, e5, e6, e7, e8, e9, e10, e11]
    exact (Cert.OutIn.final_q m c hf).symm
  · refine (h c).2.2.1.trans ?_
    rw [Cert.Reference3Ideal.Read.val_main_v152_eq, e0, e1, e2, e3, e4, e5, e6, e7, e8, e9, e10, e11]
    exact (Cert.OutIn.final_k m c hf).symm
  · refine (h c).2.2.2.1.trans ?_
    rw [Cert.Reference3Ideal.Read.val_main_v153_eq, e0, e1, e2, e3, e4, e5, e6, e7, e8, e9, e10, e11]
    exact (Cert.OutIn.final_v m c hf).symm
  · refine (h c).2.2.2.2.1.trans ?_
    rw [Cert.Reference3Ideal.Read.val_main_v154_eq, e0, e1, e2, e3, e4, e5, e6, e7, e8, e9, e10, e11]
    exact (Cert.OutIn.final_gates m c hf).symm
  · refine (h c).2.2.2.2.2.1.trans ?_
    rw [Cert.Reference3Ideal.Read.val_main_v150_eq, e0, e1, e2, e3, e4, e5, e6, e7, e8, e9, e10, e11]
    exact (Cert.OutIn.final_scan m c hf).symm

/-- The modulation table's call at its machine formats runs and leaves its arguments as they were. -/
theorem frame_p4 : Cert.quiescent_Kernel4 (hKernel4 := Cert.Kernel4.Gen.facts) :=
  fun m ρ _ => Cert.Kernel4.Gen.frame m ρ

/-- The same on the extended reals. -/
theorem frame_pi4 : Cert.quiescent_Kernel4Ideal (hKernel4Ideal := Cert.Kernel4Ideal.Gen.facts) :=
  fun m ρ _ => Cert.Kernel4Ideal.Gen.frame m ρ

/-- The modulation's reference runs and leaves its arguments as they were. -/
theorem frame_ri4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The modulation table: kernel and reference, on the same arguments, end with the same array. -/
theorem value_mod : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ⟨?_, (h c).2⟩) (Cert.Reference4Ideal.Value.run (F := Ideal) m' g')
  obtain ⟨h0, h1, h2, h3⟩ := hagree c
  refine (h c).1.trans ?_
  rw [Cert.Reference4Ideal.Read.val_main_v23_eq]
  exact (congr (congr (congr (congrArg _ h0) h1) h2) h3).trans (Cert.Mod.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.OutFinal.scans_facts, Cert.OutIn.scans_facts,
  frame_p, frame_pi, frame_pi_pre, frame_ri, frame_ri_pre, frame_p2, frame_pi2, frame_ri2,
  frame_p3, frame_pi3, frame_pi3_pre, frame_ri3, frame_ri3_pre, frame_p4, frame_pi4, frame_ri4,
  trivial, value_final, trivial, value_in, trivial, value_out_in, trivial, value_mod⟩

end Cert.Proof

end
